-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v6) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v7) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_SiluIdeal (hKernelIdeal := hKernelIdeal) (hSiluIdeal := hSiluIdeal)
    ∧ algebraic_KernelIdeal_ReferenceIdeal_on_unclipped (hKernelIdeal := hKernelIdeal) (hReferenceIdeal := hReferenceIdeal) (hOn_unclipped := hOn_unclipped)
-- ==== On_unclipped.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S512x4096 : Shape := ⟨2, ![512, 4096]⟩
abbrev S4096x2048 : Shape := ⟨2, ![4096, 2048]⟩
abbrev S4096x256 : Shape := ⟨2, ![4096, 256]⟩
abbrev S2x4096x512 : Shape := ⟨3, ![2, 4096, 512]⟩
abbrev S8x512x256 : Shape := ⟨3, ![8, 512, 256]⟩
abbrev S_ : Shape := ⟨0, ![]⟩
abbrev S2 : Shape := ⟨1, ![2]⟩
abbrev S8 : Shape := ⟨1, ![8]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .bf16⟩
  | .local _ .vmem, ⟨0, _⟩ => ⟨S4096x256, .bf16⟩
  | .local _ .vmem, ⟨1, _⟩ => ⟨S512x4096, .f32⟩
  | .local _ .vmem, ⟨2, _⟩ => ⟨S2x4096x512, .f32⟩
  | .local _ .vmem, ⟨3, _⟩ => ⟨S8x512x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v5 : BitVec 32 := Scalar.addi v2 c1_i32_0
  let c8_i32_1 : BitVec 32 := 8#32
  let v6 : BitVec 32 := Scalar.remsi v5 c8_i32_1
  let c1_i32_3 : BitVec 32 := 1#32
  let v7 : BitVec 32 := Scalar.muli v6 c1_i32_3
  let v8 : BitVec 32 := Scalar.addi c0_i32 v7
  v8.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_4 : BitVec 32 := 2#32
  let v9 : BitVec 32 := Scalar.addi v2 c2_i32_4
  let c8_i32_5 : BitVec 32 := 8#32
  let v10 : BitVec 32 := Scalar.remsi v9 c8_i32_5
  let c1_i32_7 : BitVec 32 := 1#32
  let v11 : BitVec 32 := Scalar.muli v10 c1_i32_7
  let v12 : BitVec 32 := Scalar.addi c0_i32_8 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.addi v2 c3_i32
  let c8_i32_9 : BitVec 32 := 8#32
  let v14 : BitVec 32 := Scalar.remsi v13 c8_i32_9
  let c1_i32_11 : BitVec 32 := 1#32
  let v15 : BitVec 32 := Scalar.muli v14 c1_i32_11
  let v16 : BitVec 32 := Scalar.addi c0_i32_12 v15
  v16.toNat
def k0_dev4 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.addi v2 c4_i32
  let c8_i32_13 : BitVec 32 := 8#32
  let v18 : BitVec 32 := Scalar.remsi v17 c8_i32_13
  let c1_i32_15 : BitVec 32 := 1#32
  let v19 : BitVec 32 := Scalar.muli v18 c1_i32_15
  let v20 : BitVec 32 := Scalar.addi c0_i32_16 v19
  v20.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v21 : BitVec 32 := Scalar.addi v2 c5_i32
  let c8_i32_17 : BitVec 32 := 8#32
  let v22 : BitVec 32 := Scalar.remsi v21 c8_i32_17
  let c1_i32_19 : BitVec 32 := 1#32
  let v23 : BitVec 32 := Scalar.muli v22 c1_i32_19
  let v24 : BitVec 32 := Scalar.addi c0_i32_20 v23
  v24.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v25 : BitVec 32 := Scalar.addi v2 c6_i32
  let c8_i32_21 : BitVec 32 := 8#32
  let v26 : BitVec 32 := Scalar.remsi v25 c8_i32_21
  let c1_i32_23 : BitVec 32 := 1#32
  let v27 : BitVec 32 := Scalar.muli v26 c1_i32_23
  let v28 : BitVec 32 := Scalar.addi c0_i32_24 v27
  v28.toNat
def k0_dev7 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v29 : BitVec 32 := Scalar.addi v2 c7_i32
  let c8_i32_25 : BitVec 32 := 8#32
  let v30 : BitVec 32 := Scalar.remsi v29 c8_i32_25
  let c1_i32_27 : BitVec 32 := 1#32
  let v31 : BitVec 32 := Scalar.muli v30 c1_i32_27
  let v32 : BitVec 32 := Scalar.addi c0_i32_28 v31
  v32.toNat
def k0_off1 (d0 : Dev nD) (c0_i32_30 : BitVec 32) : Fin 2 → Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_29 : BitVec 32 := 1#32
  let v33 : BitVec 32 := Scalar.addi v3 c1_i32_29
  let v34 : BitVec 32 := Scalar.addi v33 c0_i32_30
  let c4_i32_31 : BitVec 32 := 4#32
  let v35 : BitVec 32 := Scalar.remsi v34 c4_i32_31
  let c512_i32 : BitVec 32 := 512#32
  let v36 : BitVec 32 := Scalar.muli v35 c512_i32
  ![0, v36.toNat]
def k0_off2 (d0 : Dev nD) (c0_i32_61 : BitVec 32) (c0_i32_64 : BitVec 32) : Fin 3 → Nat :=
  let c2_i32_63 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_60 : BitVec 32 := 1#32
  let v69 : BitVec 32 := Scalar.addi v3 c1_i32_60
  let v70 : BitVec 32 := Scalar.addi v69 c0_i32_61
  let c4_i32_62 : BitVec 32 := 4#32
  let v71 : BitVec 32 := Scalar.remsi v70 c4_i32_62
  let v72 : BitVec 32 := Scalar.muli c2_i32_63 v71
  let v73 : BitVec 32 := Scalar.addi v72 c0_i32_64
  let v75 : Index := Scalar.indexCast v73
  let c0_65 : Index := 0#32
  let c0_66 : Index := 0#32
  ![v75.toNat, 0, 0]
def k0_cond1 (d0 : Dev nD) : BitVec 1 :=
  let c2_i32_63 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_60 : BitVec 32 := 1#32
  let v69 : BitVec 32 := Scalar.addi v3 c1_i32_60
  let c0_i32_61 : BitVec 32 := 0#32
  let v70 : BitVec 32 := Scalar.addi v69 c0_i32_61
  let c4_i32_62 : BitVec 32 := 4#32
  let v71 : BitVec 32 := Scalar.remsi v70 c4_i32_62
  let v72 : BitVec 32 := Scalar.muli c2_i32_63 v71
  let c0_i32_64 : BitVec 32 := 0#32
  let v73 : BitVec 32 := Scalar.addi v72 c0_i32_64
  let v79 : BitVec 1 := Scalar.cmpi .ne v73 v2
  let v80 : BitVec 32 := Scalar.extui v79
  let c0_i32_67 : BitVec 32 := 0#32
  let v81 : BitVec 1 := Scalar.cmpi .ne v80 c0_i32_67
  v81

def k0_off3 (d0 : Dev nD) : Fin 1 → Nat :=
  let c2_i32_63 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_60 : BitVec 32 := 1#32
  let v69 : BitVec 32 := Scalar.addi v3 c1_i32_60
  let c0_i32_61 : BitVec 32 := 0#32
  let v70 : BitVec 32 := Scalar.addi v69 c0_i32_61
  let c4_i32_62 : BitVec 32 := 4#32
  let v71 : BitVec 32 := Scalar.remsi v70 c4_i32_62
  let v72 : BitVec 32 := Scalar.muli c2_i32_63 v71
  let c0_i32_64 : BitVec 32 := 0#32
  let v73 : BitVec 32 := Scalar.addi v72 c0_i32_64
  ![v73.toNat]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off6 (d0 : Dev nD) : Fin 3 → Nat :=
  let c2_i32_63 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_60 : BitVec 32 := 1#32
  let v69 : BitVec 32 := Scalar.addi v3 c1_i32_60
  let c0_i32_61 : BitVec 32 := 0#32
  let v70 : BitVec 32 := Scalar.addi v69 c0_i32_61
  let c4_i32_62 : BitVec 32 := 4#32
  let v71 : BitVec 32 := Scalar.remsi v70 c4_i32_62
  let v72 : BitVec 32 := Scalar.muli c2_i32_63 v71
  let c0_i32_64 : BitVec 32 := 0#32
  let v73 : BitVec 32 := Scalar.addi v72 c0_i32_64
  let c0_i32_220 : BitVec 32 := 0#32
  let c0_i32_221 : BitVec 32 := 0#32
  ![v73.toNat, 0, 0]
def k0_dev8 (d0 : Dev nD) : Nat :=
  let c0_i32_218 : BitVec 32 := 0#32
  let c2_i32_63 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_60 : BitVec 32 := 1#32
  let v69 : BitVec 32 := Scalar.addi v3 c1_i32_60
  let c0_i32_61 : BitVec 32 := 0#32
  let v70 : BitVec 32 := Scalar.addi v69 c0_i32_61
  let c4_i32_62 : BitVec 32 := 4#32
  let v71 : BitVec 32 := Scalar.remsi v70 c4_i32_62
  let v72 : BitVec 32 := Scalar.muli c2_i32_63 v71
  let c0_i32_64 : BitVec 32 := 0#32
  let v73 : BitVec 32 := Scalar.addi v72 c0_i32_64
  let c1_i32_217 : BitVec 32 := 1#32
  let v294 : BitVec 32 := Scalar.muli v73 c1_i32_217
  let v295 : BitVec 32 := Scalar.addi c0_i32_218 v294
  v295.toNat
def k0_cond2 (d0 : Dev nD) : BitVec 1 :=
  let c2_i32_71 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_68 : BitVec 32 := 1#32
  let v82 : BitVec 32 := Scalar.addi v3 c1_i32_68
  let c0_i32_69 : BitVec 32 := 0#32
  let v83 : BitVec 32 := Scalar.addi v82 c0_i32_69
  let c4_i32_70 : BitVec 32 := 4#32
  let v84 : BitVec 32 := Scalar.remsi v83 c4_i32_70
  let v85 : BitVec 32 := Scalar.muli c2_i32_71 v84
  let c1_i32_72 : BitVec 32 := 1#32
  let v86 : BitVec 32 := Scalar.addi v85 c1_i32_72
  let v92 : BitVec 1 := Scalar.cmpi .ne v86 v2
  let v93 : BitVec 32 := Scalar.extui v92
  let c0_i32_75 : BitVec 32 := 0#32
  let v94 : BitVec 1 := Scalar.cmpi .ne v93 c0_i32_75
  v94

def k0_off7 (d0 : Dev nD) : Fin 1 → Nat :=
  let c2_i32_71 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_68 : BitVec 32 := 1#32
  let v82 : BitVec 32 := Scalar.addi v3 c1_i32_68
  let c0_i32_69 : BitVec 32 := 0#32
  let v83 : BitVec 32 := Scalar.addi v82 c0_i32_69
  let c4_i32_70 : BitVec 32 := 4#32
  let v84 : BitVec 32 := Scalar.remsi v83 c4_i32_70
  let v85 : BitVec 32 := Scalar.muli c2_i32_71 v84
  let c1_i32_72 : BitVec 32 := 1#32
  let v86 : BitVec 32 := Scalar.addi v85 c1_i32_72
  ![v86.toNat]
def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off10 (d0 : Dev nD) : Fin 3 → Nat :=
  let c2_i32_71 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_68 : BitVec 32 := 1#32
  let v82 : BitVec 32 := Scalar.addi v3 c1_i32_68
  let c0_i32_69 : BitVec 32 := 0#32
  let v83 : BitVec 32 := Scalar.addi v82 c0_i32_69
  let c4_i32_70 : BitVec 32 := 4#32
  let v84 : BitVec 32 := Scalar.remsi v83 c4_i32_70
  let v85 : BitVec 32 := Scalar.muli c2_i32_71 v84
  let c1_i32_72 : BitVec 32 := 1#32
  let v86 : BitVec 32 := Scalar.addi v85 c1_i32_72
  let c0_i32_220 : BitVec 32 := 0#32
  let c0_i32_221 : BitVec 32 := 0#32
  ![v86.toNat, 0, 0]
def k0_dev9 (d0 : Dev nD) : Nat :=
  let c0_i32_218 : BitVec 32 := 0#32
  let c2_i32_71 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_68 : BitVec 32 := 1#32
  let v82 : BitVec 32 := Scalar.addi v3 c1_i32_68
  let c0_i32_69 : BitVec 32 := 0#32
  let v83 : BitVec 32 := Scalar.addi v82 c0_i32_69
  let c4_i32_70 : BitVec 32 := 4#32
  let v84 : BitVec 32 := Scalar.remsi v83 c4_i32_70
  let v85 : BitVec 32 := Scalar.muli c2_i32_71 v84
  let c1_i32_72 : BitVec 32 := 1#32
  let v86 : BitVec 32 := Scalar.addi v85 c1_i32_72
  let c1_i32_217 : BitVec 32 := 1#32
  let v294 : BitVec 32 := Scalar.muli v86 c1_i32_217
  let v295 : BitVec 32 := Scalar.addi c0_i32_218 v294
  v295.toNat
def k0_cond3 (d0 : Dev nD) : BitVec 1 :=
  let c2_i32_100 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_97 : BitVec 32 := 1#32
  let v120 : BitVec 32 := Scalar.addi v3 c1_i32_97
  let c1_i32_98 : BitVec 32 := 1#32
  let v121 : BitVec 32 := Scalar.addi v120 c1_i32_98
  let c4_i32_99 : BitVec 32 := 4#32
  let v122 : BitVec 32 := Scalar.remsi v121 c4_i32_99
  let v123 : BitVec 32 := Scalar.muli c2_i32_100 v122
  let c0_i32_101 : BitVec 32 := 0#32
  let v124 : BitVec 32 := Scalar.addi v123 c0_i32_101
  let v130 : BitVec 1 := Scalar.cmpi .ne v124 v2
  let v131 : BitVec 32 := Scalar.extui v130
  let c0_i32_104 : BitVec 32 := 0#32
  let v132 : BitVec 1 := Scalar.cmpi .ne v131 c0_i32_104
  v132

def k0_off11 (d0 : Dev nD) : Fin 1 → Nat :=
  let c2_i32_100 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_97 : BitVec 32 := 1#32
  let v120 : BitVec 32 := Scalar.addi v3 c1_i32_97
  let c1_i32_98 : BitVec 32 := 1#32
  let v121 : BitVec 32 := Scalar.addi v120 c1_i32_98
  let c4_i32_99 : BitVec 32 := 4#32
  let v122 : BitVec 32 := Scalar.remsi v121 c4_i32_99
  let v123 : BitVec 32 := Scalar.muli c2_i32_100 v122
  let c0_i32_101 : BitVec 32 := 0#32
  let v124 : BitVec 32 := Scalar.addi v123 c0_i32_101
  ![v124.toNat]
def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off14 (d0 : Dev nD) : Fin 3 → Nat :=
  let c2_i32_100 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_97 : BitVec 32 := 1#32
  let v120 : BitVec 32 := Scalar.addi v3 c1_i32_97
  let c1_i32_98 : BitVec 32 := 1#32
  let v121 : BitVec 32 := Scalar.addi v120 c1_i32_98
  let c4_i32_99 : BitVec 32 := 4#32
  let v122 : BitVec 32 := Scalar.remsi v121 c4_i32_99
  let v123 : BitVec 32 := Scalar.muli c2_i32_100 v122
  let c0_i32_101 : BitVec 32 := 0#32
  let v124 : BitVec 32 := Scalar.addi v123 c0_i32_101
  let c0_i32_220 : BitVec 32 := 0#32
  let c0_i32_221 : BitVec 32 := 0#32
  ![v124.toNat, 0, 0]
def k0_dev10 (d0 : Dev nD) : Nat :=
  let c0_i32_218 : BitVec 32 := 0#32
  let c2_i32_100 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_97 : BitVec 32 := 1#32
  let v120 : BitVec 32 := Scalar.addi v3 c1_i32_97
  let c1_i32_98 : BitVec 32 := 1#32
  let v121 : BitVec 32 := Scalar.addi v120 c1_i32_98
  let c4_i32_99 : BitVec 32 := 4#32
  let v122 : BitVec 32 := Scalar.remsi v121 c4_i32_99
  let v123 : BitVec 32 := Scalar.muli c2_i32_100 v122
  let c0_i32_101 : BitVec 32 := 0#32
  let v124 : BitVec 32 := Scalar.addi v123 c0_i32_101
  let c1_i32_217 : BitVec 32 := 1#32
  let v294 : BitVec 32 := Scalar.muli v124 c1_i32_217
  let v295 : BitVec 32 := Scalar.addi c0_i32_218 v294
  v295.toNat
def k0_cond4 (d0 : Dev nD) : BitVec 1 :=
  let c2_i32_108 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_105 : BitVec 32 := 1#32
  let v133 : BitVec 32 := Scalar.addi v3 c1_i32_105
  let c1_i32_106 : BitVec 32 := 1#32
  let v134 : BitVec 32 := Scalar.addi v133 c1_i32_106
  let c4_i32_107 : BitVec 32 := 4#32
  let v135 : BitVec 32 := Scalar.remsi v134 c4_i32_107
  let v136 : BitVec 32 := Scalar.muli c2_i32_108 v135
  let c1_i32_109 : BitVec 32 := 1#32
  let v137 : BitVec 32 := Scalar.addi v136 c1_i32_109
  let v143 : BitVec 1 := Scalar.cmpi .ne v137 v2
  let v144 : BitVec 32 := Scalar.extui v143
  let c0_i32_112 : BitVec 32 := 0#32
  let v145 : BitVec 1 := Scalar.cmpi .ne v144 c0_i32_112
  v145

def k0_off15 (d0 : Dev nD) : Fin 1 → Nat :=
  let c2_i32_108 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_105 : BitVec 32 := 1#32
  let v133 : BitVec 32 := Scalar.addi v3 c1_i32_105
  let c1_i32_106 : BitVec 32 := 1#32
  let v134 : BitVec 32 := Scalar.addi v133 c1_i32_106
  let c4_i32_107 : BitVec 32 := 4#32
  let v135 : BitVec 32 := Scalar.remsi v134 c4_i32_107
  let v136 : BitVec 32 := Scalar.muli c2_i32_108 v135
  let c1_i32_109 : BitVec 32 := 1#32
  let v137 : BitVec 32 := Scalar.addi v136 c1_i32_109
  ![v137.toNat]
def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off18 (d0 : Dev nD) : Fin 3 → Nat :=
  let c2_i32_108 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_105 : BitVec 32 := 1#32
  let v133 : BitVec 32 := Scalar.addi v3 c1_i32_105
  let c1_i32_106 : BitVec 32 := 1#32
  let v134 : BitVec 32 := Scalar.addi v133 c1_i32_106
  let c4_i32_107 : BitVec 32 := 4#32
  let v135 : BitVec 32 := Scalar.remsi v134 c4_i32_107
  let v136 : BitVec 32 := Scalar.muli c2_i32_108 v135
  let c1_i32_109 : BitVec 32 := 1#32
  let v137 : BitVec 32 := Scalar.addi v136 c1_i32_109
  let c0_i32_220 : BitVec 32 := 0#32
  let c0_i32_221 : BitVec 32 := 0#32
  ![v137.toNat, 0, 0]
def k0_dev11 (d0 : Dev nD) : Nat :=
  let c0_i32_218 : BitVec 32 := 0#32
  let c2_i32_108 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_105 : BitVec 32 := 1#32
  let v133 : BitVec 32 := Scalar.addi v3 c1_i32_105
  let c1_i32_106 : BitVec 32 := 1#32
  let v134 : BitVec 32 := Scalar.addi v133 c1_i32_106
  let c4_i32_107 : BitVec 32 := 4#32
  let v135 : BitVec 32 := Scalar.remsi v134 c4_i32_107
  let v136 : BitVec 32 := Scalar.muli c2_i32_108 v135
  let c1_i32_109 : BitVec 32 := 1#32
  let v137 : BitVec 32 := Scalar.addi v136 c1_i32_109
  let c1_i32_217 : BitVec 32 := 1#32
  let v294 : BitVec 32 := Scalar.muli v137 c1_i32_217
  let v295 : BitVec 32 := Scalar.addi c0_i32_218 v294
  v295.toNat
def k0_cond5 (d0 : Dev nD) : BitVec 1 :=
  let c2_i32_138 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_135 : BitVec 32 := 1#32
  let v171 : BitVec 32 := Scalar.addi v3 c1_i32_135
  let c2_i32_136 : BitVec 32 := 2#32
  let v172 : BitVec 32 := Scalar.addi v171 c2_i32_136
  let c4_i32_137 : BitVec 32 := 4#32
  let v173 : BitVec 32 := Scalar.remsi v172 c4_i32_137
  let v174 : BitVec 32 := Scalar.muli c2_i32_138 v173
  let c0_i32_139 : BitVec 32 := 0#32
  let v175 : BitVec 32 := Scalar.addi v174 c0_i32_139
  let v181 : BitVec 1 := Scalar.cmpi .ne v175 v2
  let v182 : BitVec 32 := Scalar.extui v181
  let c0_i32_142 : BitVec 32 := 0#32
  let v183 : BitVec 1 := Scalar.cmpi .ne v182 c0_i32_142
  v183

def k0_off19 (d0 : Dev nD) : Fin 1 → Nat :=
  let c2_i32_138 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_135 : BitVec 32 := 1#32
  let v171 : BitVec 32 := Scalar.addi v3 c1_i32_135
  let c2_i32_136 : BitVec 32 := 2#32
  let v172 : BitVec 32 := Scalar.addi v171 c2_i32_136
  let c4_i32_137 : BitVec 32 := 4#32
  let v173 : BitVec 32 := Scalar.remsi v172 c4_i32_137
  let v174 : BitVec 32 := Scalar.muli c2_i32_138 v173
  let c0_i32_139 : BitVec 32 := 0#32
  let v175 : BitVec 32 := Scalar.addi v174 c0_i32_139
  ![v175.toNat]
def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off22 (d0 : Dev nD) : Fin 3 → Nat :=
  let c2_i32_138 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_135 : BitVec 32 := 1#32
  let v171 : BitVec 32 := Scalar.addi v3 c1_i32_135
  let c2_i32_136 : BitVec 32 := 2#32
  let v172 : BitVec 32 := Scalar.addi v171 c2_i32_136
  let c4_i32_137 : BitVec 32 := 4#32
  let v173 : BitVec 32 := Scalar.remsi v172 c4_i32_137
  let v174 : BitVec 32 := Scalar.muli c2_i32_138 v173
  let c0_i32_139 : BitVec 32 := 0#32
  let v175 : BitVec 32 := Scalar.addi v174 c0_i32_139
  let c0_i32_220 : BitVec 32 := 0#32
  let c0_i32_221 : BitVec 32 := 0#32
  ![v175.toNat, 0, 0]
def k0_dev12 (d0 : Dev nD) : Nat :=
  let c0_i32_218 : BitVec 32 := 0#32
  let c2_i32_138 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_135 : BitVec 32 := 1#32
  let v171 : BitVec 32 := Scalar.addi v3 c1_i32_135
  let c2_i32_136 : BitVec 32 := 2#32
  let v172 : BitVec 32 := Scalar.addi v171 c2_i32_136
  let c4_i32_137 : BitVec 32 := 4#32
  let v173 : BitVec 32 := Scalar.remsi v172 c4_i32_137
  let v174 : BitVec 32 := Scalar.muli c2_i32_138 v173
  let c0_i32_139 : BitVec 32 := 0#32
  let v175 : BitVec 32 := Scalar.addi v174 c0_i32_139
  let c1_i32_217 : BitVec 32 := 1#32
  let v294 : BitVec 32 := Scalar.muli v175 c1_i32_217
  let v295 : BitVec 32 := Scalar.addi c0_i32_218 v294
  v295.toNat
def k0_cond6 (d0 : Dev nD) : BitVec 1 :=
  let c2_i32_146 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_143 : BitVec 32 := 1#32
  let v184 : BitVec 32 := Scalar.addi v3 c1_i32_143
  let c2_i32_144 : BitVec 32 := 2#32
  let v185 : BitVec 32 := Scalar.addi v184 c2_i32_144
  let c4_i32_145 : BitVec 32 := 4#32
  let v186 : BitVec 32 := Scalar.remsi v185 c4_i32_145
  let v187 : BitVec 32 := Scalar.muli c2_i32_146 v186
  let c1_i32_147 : BitVec 32 := 1#32
  let v188 : BitVec 32 := Scalar.addi v187 c1_i32_147
  let v194 : BitVec 1 := Scalar.cmpi .ne v188 v2
  let v195 : BitVec 32 := Scalar.extui v194
  let c0_i32_150 : BitVec 32 := 0#32
  let v196 : BitVec 1 := Scalar.cmpi .ne v195 c0_i32_150
  v196

def k0_off23 (d0 : Dev nD) : Fin 1 → Nat :=
  let c2_i32_146 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_143 : BitVec 32 := 1#32
  let v184 : BitVec 32 := Scalar.addi v3 c1_i32_143
  let c2_i32_144 : BitVec 32 := 2#32
  let v185 : BitVec 32 := Scalar.addi v184 c2_i32_144
  let c4_i32_145 : BitVec 32 := 4#32
  let v186 : BitVec 32 := Scalar.remsi v185 c4_i32_145
  let v187 : BitVec 32 := Scalar.muli c2_i32_146 v186
  let c1_i32_147 : BitVec 32 := 1#32
  let v188 : BitVec 32 := Scalar.addi v187 c1_i32_147
  ![v188.toNat]
def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off26 (d0 : Dev nD) : Fin 3 → Nat :=
  let c2_i32_146 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_143 : BitVec 32 := 1#32
  let v184 : BitVec 32 := Scalar.addi v3 c1_i32_143
  let c2_i32_144 : BitVec 32 := 2#32
  let v185 : BitVec 32 := Scalar.addi v184 c2_i32_144
  let c4_i32_145 : BitVec 32 := 4#32
  let v186 : BitVec 32 := Scalar.remsi v185 c4_i32_145
  let v187 : BitVec 32 := Scalar.muli c2_i32_146 v186
  let c1_i32_147 : BitVec 32 := 1#32
  let v188 : BitVec 32 := Scalar.addi v187 c1_i32_147
  let c0_i32_220 : BitVec 32 := 0#32
  let c0_i32_221 : BitVec 32 := 0#32
  ![v188.toNat, 0, 0]
def k0_dev13 (d0 : Dev nD) : Nat :=
  let c0_i32_218 : BitVec 32 := 0#32
  let c2_i32_146 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_143 : BitVec 32 := 1#32
  let v184 : BitVec 32 := Scalar.addi v3 c1_i32_143
  let c2_i32_144 : BitVec 32 := 2#32
  let v185 : BitVec 32 := Scalar.addi v184 c2_i32_144
  let c4_i32_145 : BitVec 32 := 4#32
  let v186 : BitVec 32 := Scalar.remsi v185 c4_i32_145
  let v187 : BitVec 32 := Scalar.muli c2_i32_146 v186
  let c1_i32_147 : BitVec 32 := 1#32
  let v188 : BitVec 32 := Scalar.addi v187 c1_i32_147
  let c1_i32_217 : BitVec 32 := 1#32
  let v294 : BitVec 32 := Scalar.muli v188 c1_i32_217
  let v295 : BitVec 32 := Scalar.addi c0_i32_218 v294
  v295.toNat
def k0_cond7 (d0 : Dev nD) : BitVec 1 :=
  let c2_i32_167 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_164 : BitVec 32 := 1#32
  let v213 : BitVec 32 := Scalar.addi v3 c1_i32_164
  let c3_i32_165 : BitVec 32 := 3#32
  let v214 : BitVec 32 := Scalar.addi v213 c3_i32_165
  let c4_i32_166 : BitVec 32 := 4#32
  let v215 : BitVec 32 := Scalar.remsi v214 c4_i32_166
  let v216 : BitVec 32 := Scalar.muli c2_i32_167 v215
  let c0_i32_168 : BitVec 32 := 0#32
  let v217 : BitVec 32 := Scalar.addi v216 c0_i32_168
  let v223 : BitVec 1 := Scalar.cmpi .ne v217 v2
  let v224 : BitVec 32 := Scalar.extui v223
  let c0_i32_171 : BitVec 32 := 0#32
  let v225 : BitVec 1 := Scalar.cmpi .ne v224 c0_i32_171
  v225

def k0_off27 (d0 : Dev nD) : Fin 1 → Nat :=
  let c2_i32_167 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_164 : BitVec 32 := 1#32
  let v213 : BitVec 32 := Scalar.addi v3 c1_i32_164
  let c3_i32_165 : BitVec 32 := 3#32
  let v214 : BitVec 32 := Scalar.addi v213 c3_i32_165
  let c4_i32_166 : BitVec 32 := 4#32
  let v215 : BitVec 32 := Scalar.remsi v214 c4_i32_166
  let v216 : BitVec 32 := Scalar.muli c2_i32_167 v215
  let c0_i32_168 : BitVec 32 := 0#32
  let v217 : BitVec 32 := Scalar.addi v216 c0_i32_168
  ![v217.toNat]
def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off30 (d0 : Dev nD) : Fin 3 → Nat :=
  let c2_i32_167 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_164 : BitVec 32 := 1#32
  let v213 : BitVec 32 := Scalar.addi v3 c1_i32_164
  let c3_i32_165 : BitVec 32 := 3#32
  let v214 : BitVec 32 := Scalar.addi v213 c3_i32_165
  let c4_i32_166 : BitVec 32 := 4#32
  let v215 : BitVec 32 := Scalar.remsi v214 c4_i32_166
  let v216 : BitVec 32 := Scalar.muli c2_i32_167 v215
  let c0_i32_168 : BitVec 32 := 0#32
  let v217 : BitVec 32 := Scalar.addi v216 c0_i32_168
  let c0_i32_220 : BitVec 32 := 0#32
  let c0_i32_221 : BitVec 32 := 0#32
  ![v217.toNat, 0, 0]
def k0_dev14 (d0 : Dev nD) : Nat :=
  let c0_i32_218 : BitVec 32 := 0#32
  let c2_i32_167 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_164 : BitVec 32 := 1#32
  let v213 : BitVec 32 := Scalar.addi v3 c1_i32_164
  let c3_i32_165 : BitVec 32 := 3#32
  let v214 : BitVec 32 := Scalar.addi v213 c3_i32_165
  let c4_i32_166 : BitVec 32 := 4#32
  let v215 : BitVec 32 := Scalar.remsi v214 c4_i32_166
  let v216 : BitVec 32 := Scalar.muli c2_i32_167 v215
  let c0_i32_168 : BitVec 32 := 0#32
  let v217 : BitVec 32 := Scalar.addi v216 c0_i32_168
  let c1_i32_217 : BitVec 32 := 1#32
  let v294 : BitVec 32 := Scalar.muli v217 c1_i32_217
  let v295 : BitVec 32 := Scalar.addi c0_i32_218 v294
  v295.toNat
def k0_cond8 (d0 : Dev nD) : BitVec 1 :=
  let c2_i32_175 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_172 : BitVec 32 := 1#32
  let v226 : BitVec 32 := Scalar.addi v3 c1_i32_172
  let c3_i32_173 : BitVec 32 := 3#32
  let v227 : BitVec 32 := Scalar.addi v226 c3_i32_173
  let c4_i32_174 : BitVec 32 := 4#32
  let v228 : BitVec 32 := Scalar.remsi v227 c4_i32_174
  let v229 : BitVec 32 := Scalar.muli c2_i32_175 v228
  let c1_i32_176 : BitVec 32 := 1#32
  let v230 : BitVec 32 := Scalar.addi v229 c1_i32_176
  let v236 : BitVec 1 := Scalar.cmpi .ne v230 v2
  let v237 : BitVec 32 := Scalar.extui v236
  let c0_i32_179 : BitVec 32 := 0#32
  let v238 : BitVec 1 := Scalar.cmpi .ne v237 c0_i32_179
  v238

def k0_off31 (d0 : Dev nD) : Fin 1 → Nat :=
  let c2_i32_175 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_172 : BitVec 32 := 1#32
  let v226 : BitVec 32 := Scalar.addi v3 c1_i32_172
  let c3_i32_173 : BitVec 32 := 3#32
  let v227 : BitVec 32 := Scalar.addi v226 c3_i32_173
  let c4_i32_174 : BitVec 32 := 4#32
  let v228 : BitVec 32 := Scalar.remsi v227 c4_i32_174
  let v229 : BitVec 32 := Scalar.muli c2_i32_175 v228
  let c1_i32_176 : BitVec 32 := 1#32
  let v230 : BitVec 32 := Scalar.addi v229 c1_i32_176
  ![v230.toNat]
def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_216 : BitVec 32 := 512#32
  let v293 : BitVec 32 := Scalar.muli v2 c512_i32_216
  let c0_i32_219 : BitVec 32 := 0#32
  ![v293.toNat, 0]
def k0_off34 (d0 : Dev nD) : Fin 3 → Nat :=
  let c2_i32_175 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_172 : BitVec 32 := 1#32
  let v226 : BitVec 32 := Scalar.addi v3 c1_i32_172
  let c3_i32_173 : BitVec 32 := 3#32
  let v227 : BitVec 32 := Scalar.addi v226 c3_i32_173
  let c4_i32_174 : BitVec 32 := 4#32
  let v228 : BitVec 32 := Scalar.remsi v227 c4_i32_174
  let v229 : BitVec 32 := Scalar.muli c2_i32_175 v228
  let c1_i32_176 : BitVec 32 := 1#32
  let v230 : BitVec 32 := Scalar.addi v229 c1_i32_176
  let c0_i32_220 : BitVec 32 := 0#32
  let c0_i32_221 : BitVec 32 := 0#32
  ![v230.toNat, 0, 0]
def k0_dev15 (d0 : Dev nD) : Nat :=
  let c0_i32_218 : BitVec 32 := 0#32
  let c2_i32_175 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.divsi v2 c2_i32
  let c1_i32_172 : BitVec 32 := 1#32
  let v226 : BitVec 32 := Scalar.addi v3 c1_i32_172
  let c3_i32_173 : BitVec 32 := 3#32
  let v227 : BitVec 32 := Scalar.addi v226 c3_i32_173
  let c4_i32_174 : BitVec 32 := 4#32
  let v228 : BitVec 32 := Scalar.remsi v227 c4_i32_174
  let v229 : BitVec 32 := Scalar.muli c2_i32_175 v228
  let c1_i32_176 : BitVec 32 := 1#32
  let v230 : BitVec 32 := Scalar.addi v229 c1_i32_176
  let c1_i32_217 : BitVec 32 := 1#32
  let v294 : BitVec 32 := Scalar.muli v230 c1_i32_217
  let v295 : BitVec 32 := Scalar.addi c0_i32_218 v294
  v295.toNat
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : Index := Scalar.indexCast v2
  let c0_180 : Index := 0#32
  let c0_181 : Index := 0#32
  ![v239.toNat, 0, 0]
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_182 : BitVec 32 := 512#32
  let v242 : BitVec 32 := Scalar.muli v2 c512_i32_182
  let v243 : Index := Scalar.indexCast v242
  let c0_183 : Index := 0#32
  ![v243.toNat, 0]
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Contents.lean ====
/-
# The kernel's memory: its blocks, its semaphores and what they come to hold

The eight devices each hold 512 rows of `x` and the whole of `w`. A device multiplies its rows by `w` four column chunks at
a time, activates the product, and cuts each chunk into two blocks of 256 columns, so that it makes eight blocks of 512 by
256: block `t` is the one device `t` keeps. This file names the blocks' places in the scratch array and in the result, the
semaphores, and the contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Pipeline.ValueKit.Geometry
public import Idealize.ShloMosaic.Lib.Tactic

@[expose] public section

noncomputable section

namespace Cert.KRun

open Cert.KernelIdeal Cert.KernelIdeal.Gen
open Idealize.ShloMosaic Idealize.ShloMosaic.TcCoe Idealize.ShloMosaic.ValueIdx

variable {F : FTy → Type} [FloatOps F]

/-! ## The memrefs of the body's operands -/

abbrev xM : Memref sig .tc .hbm S512x4096 .f32 := Memref.whole main_arg0
abbrev wM : Memref sig .tc .hbm S4096x2048 .f32 := Memref.whole main_arg1
abbrev oM : Memref sig .tc .vmem S4096x256 .bf16 := Memref.whole cc0_stg0_0
abbrev xfM : Memref sig .tc .vmem S512x4096 .f32 := Memref.whole cc0_scratch0
abbrev wfM : Memref sig .tc .vmem S2x4096x512 .f32 := Memref.whole cc0_scratch1
abbrev yM : Memref sig .tc .vmem S8x512x256 .bf16 := Memref.whole cc0_scratch2

/-! ## The semaphores -/

theorem inb_dev (t : Dev nD) : ∀ a, (![t.val] : Fin 1 → ℕ) a + S1.size a ≤ S8.size a := by revert t; decide

/-- The runtime's barrier semaphore. -/
abbrev barS : Sem sig := (SemArray.scalar (sig.barrier 0 rfl) : Sems sig S_).sem
/-- The semaphore of the copy of `x`. -/
abbrev xloadS : DmaSem sig := (cc0_scratch3 : DmaSems sig S_).sem
/-- The semaphores of the copies of `w`'s chunks, one for each of the two slots. -/
abbrev loadS0 : DmaSem sig := ((cc0_scratch4.slice (Rect.unit (s := S2) ![0] S1.size inb_S2_S1_0)).squeeze S_ squeezes_S1_S_).sem
abbrev loadS1 : DmaSem sig := ((cc0_scratch4.slice (Rect.unit (s := S2) ![1] S1.size inb_S2_S1_1)).squeeze S_ squeezes_S1_S_).sem
/-- The semaphore on which a device's transfer TO device `t` reports that its source is free. -/
def sendS (t : Dev nD) : DmaSem sig := ((cc0_scratch5.slice (Rect.unit (s := S8) ![t.val] S1.size (inb_dev t))).squeeze S_ squeezes_S1_S_).sem
/-- The semaphore on which the block FROM device `s` reports that it has landed. -/
def recvS (s : Dev nD) : DmaSem sig := ((cc0_scratch6.slice (Rect.unit (s := S8) ![s.val] S1.size (inb_dev s))).squeeze S_ squeezes_S1_S_).sem

theorem sendS_of (t : Dev nD) {off : Fin 1 → ℕ} (h : off = ![t.val]) (inb) :
    ((cc0_scratch5.slice (Rect.unit (s := S8) off S1.size inb)).squeeze S_ squeezes_S1_S_).sem = sendS t := by subst h; rfl
theorem recvS_of (s : Dev nD) {off : Fin 1 → ℕ} (h : off = ![s.val]) (inb) :
    ((cc0_scratch6.slice (Rect.unit (s := S8) off S1.size inb)).squeeze S_ squeezes_S1_S_).sem = recvS s := by subst h; rfl

/-! ## The blocks' places -/

/-- Block `t` of the scratch array of blocks. -/
def yBlk (t : Dev nD) : Finset S8x512x256.Idx := Finset.univ.filter fun i => (i 0).val = t.val
/-- The rows of the result that device `s` fills. -/
def outBlk (s : Dev nD) : Finset S4096x256.Idx := Finset.univ.filter fun i => (i 0).val / 512 = s.val
/-- Slot `b` of the scratch array of `w`'s chunks. -/
def wBlk (b : Fin 2) : Finset S2x4096x512.Idx := Finset.univ.filter fun i => (i 0).val = b.val

theorem mem_yBlk {t : Dev nD} {i : S8x512x256.Idx} : i ∈ yBlk t ↔ (i 0).val = t.val := by simp [yBlk]
theorem mem_outBlk {s : Dev nD} {i : S4096x256.Idx} : i ∈ outBlk s ↔ (i 0).val / 512 = s.val := by simp [outBlk]
theorem mem_wBlk {b : Fin 2} {i : S2x4096x512.Idx} : i ∈ wBlk b ↔ (i 0).val = b.val := by simp [wBlk]

theorem yBlk_disjoint (b b' : Dev nD) (h : b ≠ b') : Disjoint (yBlk b) (yBlk b') :=
  Finset.disjoint_left.mpr fun i h1 h2 => h (Fin.ext ((mem_yBlk.mp h1).symm.trans (mem_yBlk.mp h2)))
theorem outBlk_disjoint (b b' : Dev nD) (h : b ≠ b') : Disjoint (outBlk b) (outBlk b') :=
  Finset.disjoint_left.mpr fun i h1 h2 => h (Fin.ext ((mem_outBlk.mp h1).symm.trans (mem_outBlk.mp h2)))
theorem wBlk_disjoint (b b' : Fin 2) (h : b ≠ b') : Disjoint (wBlk b) (wBlk b') :=
  Finset.disjoint_left.mpr fun i h1 h2 => h (Fin.ext ((mem_wBlk.mp h1).symm.trans (mem_wBlk.mp h2)))

theorem yBlk_cover : Finset.univ.biUnion yBlk = Finset.univ :=
  Finset.eq_univ_of_forall fun i => Finset.mem_biUnion.mpr ⟨⟨(i 0).val, (i 0).isLt⟩, Finset.mem_univ _, mem_yBlk.mpr rfl⟩
theorem outBlk_cover : Finset.univ.biUnion outBlk = Finset.univ :=
  Finset.eq_univ_of_forall fun i => Finset.mem_biUnion.mpr
    ⟨⟨(i 0).val / 512, Nat.div_lt_of_lt_mul (i 0).isLt⟩, Finset.mem_univ _, mem_outBlk.mpr rfl⟩
theorem wBlk_cover : Finset.univ.biUnion wBlk = Finset.univ :=
  Finset.eq_univ_of_forall fun i => Finset.mem_biUnion.mpr ⟨⟨(i 0).val, (i 0).isLt⟩, Finset.mem_univ _, mem_wBlk.mpr rfl⟩

/-- The rectangle of block `t` of the scratch array covers `yBlk t`; -/
theorem y_set (t : Dev nD) {off : Fin 3 → ℕ} (h : off = ![t.val, 0, 0]) (inb) :
    (yM.access (Rect.unit (s := S8x512x256) off S1x512x256.size inb)).set = yBlk t := by
  subst h
  ext i
  refine (ValueKit.mem_set_slice_whole_iff cc0_scratch2 _ i (Rect.mem_set_unit.trans ?_)).trans mem_yBlk.symm
  have h1 : (i 1).val < 512 := (i 1).isLt
  have h2 : (i 2).val < 256 := (i 2).isLt
  refine Fin.forall_fin_succ.trans ⟨fun h => ?_, fun h => ⟨?_, Fin.forall_fin_succ.mpr ⟨?_, Fin.forall_fin_one.mpr ?_⟩⟩⟩
  · have h0 : t.val ≤ (i 0).val ∧ (i 0).val < t.val + 1 := h.1
    show (i 0).val = t.val; omega
  · have h0 : (i 0).val = t.val := h
    show t.val ≤ (i 0).val ∧ (i 0).val < t.val + 1; omega
  · exact ⟨Nat.zero_le _, by show (i 1).val < 0 + 512; omega⟩
  · exact ⟨Nat.zero_le _, by show (i 2).val < 0 + 256; omega⟩

/-- and its squeeze covers the same. -/
theorem y_sq_set (t : Dev nD) {off : Fin 3 → ℕ} (h : off = ![t.val, 0, 0]) (inb) (hr) :
    ((yM.slice (Rect.unit (s := S8x512x256) off S1x512x256.size inb) hr).squeeze S512x256 squeezes_S1x512x256_S512x256).view.set = yBlk t := by
  rw [← y_set t h inb]; exact View.set_reshape _ _

/-- The rectangle of rows `512 s` to `512 s + 511` of the result covers `outBlk s`. -/
theorem out_set (s : Dev nD) {off : Fin 2 → ℕ} (h : off = ![512 * s.val, 0]) (inb) :
    (oM.access (Rect.unit (s := S4096x256) off S512x256.size inb)).set = outBlk s := by
  subst h
  ext i
  refine (ValueKit.mem_set_slice_whole_iff cc0_stg0_0 _ i (Rect.mem_set_unit.trans ?_)).trans mem_outBlk.symm
  have h1 : (i 1).val < 256 := (i 1).isLt
  refine Fin.forall_fin_succ.trans ⟨fun h => ?_, fun h => ⟨?_, Fin.forall_fin_one.mpr ?_⟩⟩
  · have h0 : 512 * s.val ≤ (i 0).val ∧ (i 0).val < 512 * s.val + 512 := h.1
    show (i 0).val / 512 = s.val; omega
  · have h0 : (i 0).val / 512 = s.val := h
    show 512 * s.val ≤ (i 0).val ∧ (i 0).val < 512 * s.val + 512; omega
  · exact ⟨Nat.zero_le _, by show (i 1).val < 0 + 256; omega⟩

/-- The rectangle of slot `b` covers `wBlk b`, -/
theorem w_set (b : Fin 2) {off : Fin 3 → ℕ} (h : off = ![b.val, 0, 0]) (inb) :
    (wfM.access (Rect.unit (s := S2x4096x512) off S1x4096x512.size inb)).set = wBlk b := by
  subst h
  ext i
  refine (ValueKit.mem_set_slice_whole_iff cc0_scratch1 _ i (Rect.mem_set_unit.trans ?_)).trans mem_wBlk.symm
  have h1 : (i 1).val < 4096 := (i 1).isLt
  have h2 : (i 2).val < 512 := (i 2).isLt
  refine Fin.forall_fin_succ.trans ⟨fun h => ?_, fun h => ⟨?_, Fin.forall_fin_succ.mpr ⟨?_, Fin.forall_fin_one.mpr ?_⟩⟩⟩
  · have h0 : b.val ≤ (i 0).val ∧ (i 0).val < b.val + 1 := h.1
    show (i 0).val = b.val; omega
  · have h0 : (i 0).val = b.val := h
    show b.val ≤ (i 0).val ∧ (i 0).val < b.val + 1; omega
  · exact ⟨Nat.zero_le _, by show (i 1).val < 0 + 4096; omega⟩
  · exact ⟨Nat.zero_le _, by show (i 2).val < 0 + 512; omega⟩

/-- and so does its squeeze. -/
theorem w_sq_set (b : Fin 2) {off : Fin 3 → ℕ} (h : off = ![b.val, 0, 0]) (inb) (hr) :
    ((wfM.slice (Rect.unit (s := S2x4096x512) off S1x4096x512.size inb) hr).squeeze S4096x512 squeezes_S1x4096x512_S4096x512).view.set = wBlk b := by
  rw [← w_set b h inb]; exact View.set_reshape _ _

/-! ## The contents -/

variable (m : (ℓ : Loc nD τ sig) → Buf (Elt F) ℓ)

/-- Device `c`'s rows of `x`; -/
def xAt (c : Dev nD) : S512x4096.Idx → Elt F .f32 := m ((c : Thread nD τ).loc main_arg0)
/-- its copy of `w`; -/
def wAt (c : Dev nD) : S4096x2048.Idx → Elt F .f32 := m ((c : Thread nD τ).loc main_arg1)

/-- columns `512 q` to `512 q + 511` of it, as a slot of the scratch array holds them. -/
def chunk (c : Dev nD) (q : Fin 4) : S1x4096x512.Idx → Elt F .f32 := fun j =>
  wAt m c (ix2 (j 1) ⟨512 * q.val + (j 2).val, by have := q.isLt; have h : (j 2).val < 512 := (j 2).isLt; show _ < 2048; omega⟩)
/-- A slot of the scratch array, holding chunk `q`. -/
def slotAt (c : Dev nD) (q : Fin 4) : S2x4096x512.Idx → Elt F .f32 := fun i => chunk m c q (ix3 0 (i 1) (i 2))

/-- Which chunk block `t` is cut from. -/
def chunkOf (t : Dev nD) : Fin 4 := ⟨t.val / 2, Nat.div_lt_of_lt_mul t.isLt⟩

/-- The activated product of device `c`'s rows and chunk `q`. -/
def prod (c : Dev nD) (q : Fin 4) : FVec F S512x512 .bf16 := k0_pay2 (k0_pay1 (xAt m c)) (chunk m c q)

/-- The block device `c` makes for device `t`: the left or the right half of a chunk's activated product. -/
def blockVal (c t : Dev nD) : S1x512x256.Idx → Elt F .bf16 :=
  if t.val % 2 = 0 then k0_pay3 (k0_pay1 (xAt m c)) (chunk m c (chunkOf t)) else k0_pay4 (prod m c (chunkOf t))

/-- Device `c`'s scratch array of blocks when every block is in it; -/
def yAt (c : Dev nD) : S8x512x256.Idx → Elt F .bf16 := fun i => blockVal m c (i 0) (ix3 0 (i 1) (i 2))
/-- device `t`'s result: rows `512 s` to `512 s + 511` are the block device `s` makes for it. -/
def outAt (t : Dev nD) : S4096x256.Idx → Elt F .bf16 := fun i =>
  k0_pay17 (blockVal m ⟨(i 0).val / 512, Nat.div_lt_of_lt_mul (i 0).isLt⟩ t) (ix2 ⟨(i 0).val % 512, Nat.mod_lt _ (by decide)⟩ (i 1))

omit [FloatOps F] in
/-- What is written through a view agrees, on the view's elements, with any contents the view reads as what was written. -/
theorem write_eq {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  rw [← h, View.write_read_eq_piecewise]
  exact Finset.piecewise_eq_of_mem _ _ _ hi

/-- Block `t` of the filled scratch array reads as `blockVal`; -/
theorem y_read (c t : Dev nD) {off : Fin 3 → ℕ} (h : off = ![t.val, 0, 0]) (inb) :
    (yM.access (Rect.unit (s := S8x512x256) off S1x512x256.size inb)).read (Elt F) (yAt m c) = blockVal m c t := by
  subst h
  funext j
  have h0 : (j 0).val = 0 := Nat.lt_one_iff.mp (j 0).isLt
  show blockVal m c _ _ = _
  congr 1
  · exact Fin.ext ((ValueKit.view_emb_slice_whole_unit_val cc0_scratch2 ![t.val, 0, 0] S1x512x256.size inb j 0).trans (by rw [h0]; rfl))
  · funext a
    fin_cases a
    · exact Fin.ext h0.symm
    · exact Fin.ext ((ValueKit.view_emb_slice_whole_unit_val cc0_scratch2 ![t.val, 0, 0] S1x512x256.size inb j 1).trans (Nat.zero_add _))
    · exact Fin.ext ((ValueKit.view_emb_slice_whole_unit_val cc0_scratch2 ![t.val, 0, 0] S1x512x256.size inb j 2).trans (Nat.zero_add _))

/-- its squeeze reads as the block of the result. -/
theorem y_sq_read (c t : Dev nD) {off : Fin 3 → ℕ} (h : off = ![t.val, 0, 0]) (inb) (hr) :
    ((yM.slice (Rect.unit (s := S8x512x256) off S1x512x256.size inb) hr).squeeze S512x256 squeezes_S1x512x256_S512x256).view.read (Elt F) (yAt m c)
      = k0_pay17 (blockVal m c t) := by
  rw [← y_read m c t h inb]; rfl

/-- Rows `512 s` to `512 s + 511` of device `t`'s result read as the block `s` makes for it. -/
theorem out_read (s t : Dev nD) {off : Fin 2 → ℕ} (h : off = ![512 * s.val, 0]) (inb) :
    (oM.access (Rect.unit (s := S4096x256) off S512x256.size inb)).read (Elt F) (outAt m t) = k0_pay17 (blockVal m s t) := by
  subst h
  funext j
  have h0 : (j 0).val < 512 := (j 0).isLt
  have e0 := ValueKit.view_emb_slice_whole_unit_val cc0_stg0_0 ![512 * s.val, 0] S512x256.size inb j 0
  have e1 := ValueKit.view_emb_slice_whole_unit_val cc0_stg0_0 ![512 * s.val, 0] S512x256.size inb j 1
  change _ = 512 * s.val + (j 0).val at e0
  change _ = 0 + (j 1).val at e1
  show k0_pay17 (blockVal m ⟨_, _⟩ t) _ = _
  congr 1
  · congr 1
    exact Fin.ext ((congrArg (· / 512) e0).trans (by show (512 * s.val + (j 0).val) / 512 = s.val; omega))
  · funext a
    fin_cases a
    · exact Fin.ext ((congrArg (· % 512) e0).trans (by show (512 * s.val + (j 0).val) % 512 = (j 0).val; omega))
    · exact Fin.ext (e1.trans (Nat.zero_add _))

/-- A slot holding chunk `q` reads as the chunk. -/
theorem w_read (c : Dev nD) (q : Fin 4) (b : Fin 2) {off : Fin 3 → ℕ} (h : off = ![b.val, 0, 0]) (inb) :
    (wfM.access (Rect.unit (s := S2x4096x512) off S1x4096x512.size inb)).read (Elt F) (slotAt m c q) = chunk m c q := by
  subst h
  funext j
  have h0 : (j 0).val = 0 := Nat.lt_one_iff.mp (j 0).isLt
  show chunk m c q _ = _
  congr 1
  funext a
  fin_cases a
  · exact Fin.ext h0.symm
  · exact Fin.ext ((ValueKit.view_emb_slice_whole_unit_val cc0_scratch1 ![b.val, 0, 0] S1x4096x512.size inb j 1).trans (Nat.zero_add _))
  · exact Fin.ext ((ValueKit.view_emb_slice_whole_unit_val cc0_scratch1 ![b.val, 0, 0] S1x4096x512.size inb j 2).trans (Nat.zero_add _))

/-- The squeeze of a slot holding chunk `q` reads as the chunk's columns of `w`. -/
theorem w_sq_read (c : Dev nD) (q : Fin 4) (b : Fin 2) {off : Fin 3 → ℕ} (h : off = ![b.val, 0, 0]) (inb) (hr)
    {off' : Fin 2 → ℕ} (h' : off' = ![0, 512 * q.val]) (inb') (hr') :
    ((wfM.slice (Rect.unit (s := S2x4096x512) off S1x4096x512.size inb) hr).squeeze S4096x512 squeezes_S1x4096x512_S4096x512).view.read (Elt F) (slotAt m c q)
      = (wM.slice (Rect.unit (s := S4096x2048) off' S4096x512.size inb') hr').view.read (Elt F) (wAt m c) := by
  have e : ((wfM.slice (Rect.unit (s := S2x4096x512) off S1x4096x512.size inb) hr).squeeze S4096x512 squeezes_S1x4096x512_S4096x512).view.read (Elt F) (slotAt m c q)
      = shapeCast S4096x512 (chunk m c q) shapeCasts_S1x4096x512_S4096x512 := by
    rw [← w_read m c q b h inb]; rfl
  rw [e]
  subst h'
  funext j
  have ej : Shape.reshapeEquiv (s := S1x4096x512) (s' := S4096x512) squeezes_S1x4096x512_S4096x512.numel_eq j = ix3 (⟨0, Nat.one_pos⟩ : Fin 1) (j 0) (j 1) :=
    (congrArg _ (show j = ix2 (j 0) (j 1) from by funext a; fin_cases a <;> rfl)).trans (reshapeEquiv_ix2_1ab _ (j 0) (j 1))
  refine (congrArg (chunk m c q) ej).trans ?_
  show wAt m c _ = wAt m c _
  congr 1
  funext a
  fin_cases a
  · exact Fin.ext ((Nat.zero_add _).symm.trans (ValueKit.view_emb_slice_whole_unit_val main_arg1 ![0, 512 * q.val] S4096x512.size inb' j 0).symm)
  · exact Fin.ext (ValueKit.view_emb_slice_whole_unit_val main_arg1 ![0, 512 * q.val] S4096x512.size inb' j 1).symm

end Cert.KRun

end
-- ==== Proof.Schedule.lean ====
/-
# The protocol of the exchange

Every device has one barrier cell, eight send cells and eight receive cells. Each is used for one round at most:

* a barrier cell is paid by the seven other devices, one unit each; device `d`'s unit brings the rows of `d`'s result that
  the cell's device is going to fill;
* send cell `t` of device `c` is paid when the transfer from `c` to `t` has read its source, and brings the source block back;
* receive cell `s` of device `c` is paid when the block that `s` made for `c` has landed, and brings those rows, filled.

The cells a device would use for a transfer to itself stay unused.
-/
module

public import proofs.«01_k».proof.Proof.Contents
public import Idealize.ShloMosaic.Lib.Transfers

@[expose] public section

noncomputable section

namespace Cert.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra: the pipeline's rounds, the exchange's rounds with devices as duties, the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds: the left half of the right factor. -/
def EX : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance EX_landsIn : (EX : Emb UB 𝕄).LandsIn (upEmb : UEmb _ 𝕄) := by unfold EX; infer_instance
/-- The local copies' counters. -/
abbrev EC : UEmb Counters (MT nD τ sig Unit (Elt F) ℕ UU ℕ) := countersEmb

/-! ## The cells -/

abbrev barCell (c : Dev nD) : GSem nD τ sig := ((c : Thread nD τ), .reg barS)
abbrev sendCell (c t : Dev nD) : GSem nD τ sig := ((c : Thread nD τ), .dma (sendS t))
abbrev recvCell (c s : Dev nD) : GSem nD τ sig := ((c : Thread nD τ), .dma (recvS s))

theorem sendS_inj : Function.Injective sendS := by decide
theorem recvS_inj : Function.Injective recvS := by decide
theorem sendS_ne_recvS (t s : Dev nD) : sendS t ≠ recvS s := by revert t s; decide

/-- What a transfer of one block counts. -/
abbrev N : ℕ := (cc0_stg0_0 : Ref sig .tc).dmaCredit S512x256 .bf16

theorem N_pos : 0 < N :=
  View.dmaCredit_pos (oM.slice (Rect.unit (s := S4096x256) ![0, 0] S512x256.size (by decide)) (fun _ => rfl)).view (by decide)

variable (m : (ℓ : Loc nD τ sig) → Buf (Elt F) ℓ)

/-! ## What the cells bring -/

/-- The rows of device `t`'s result that device `s` fills, holding `f`. -/
def outPts (t s : Dev nD) (f : S4096x256.Idx → Elt F .bf16) : sProp 𝕄 :=
  ((t : Thread nD τ).loc cc0_stg0_0) ↦[outBlk s]{fullShare} f
/-- Block `t` of device `c`'s scratch array of blocks, holding `f`. -/
def yPts (c t : Dev nD) (f : S8x512x256.Idx → Elt F .bf16) : sProp 𝕄 :=
  ((c : Thread nD τ).loc cc0_scratch2) ↦[yBlk t]{fullShare} f

omit [FloatOps F] in
instance outPts_storable (t s : Dev nD) (f) : BI.Storable (upEmb : UEmb _ 𝕄) (outPts (F := F) t s f) := by unfold outPts; infer_instance
omit [FloatOps F] in
instance yPts_storable (c t : Dev nD) (f) : BI.Storable (upEmb : UEmb _ 𝕄) (yPts (F := F) c t f) := by unfold yPts; infer_instance

/-- The schedule: round 0 only. -/
def Rd : Rounds.Schedule (GSem nD τ sig) (Dev nD) 𝕄 where
  duties g r :=
    if r = 0 ∧ g.1.2 = .tc then
      (if g.2 = .reg barS then Finset.univ.erase g.1.1
        else Finset.univ.filter fun d => d ≠ g.1.1 ∧ (g.2 = .dma (sendS d) ∨ g.2 = .dma (recvS d)))
    else ∅
  unitless _ := False
  amount g _ _ := if g.2 = .reg barS then 1 else N
  payload g _ d :=
    if g.2 = .reg barS then iprop(∃ f, outPts d g.1.1 f)
    else if g.2 = .dma (recvS d) then outPts g.1.1 d (outAt m g.1.1)
    else if g.2 = .dma (sendS d) then yPts g.1.1 d (yAt m g.1.1)
    else iprop(emp)
  amount_pos g _ _ _ := by
    by_cases h : g.2 = .reg barS
    · rw [if_pos h]; exact Nat.one_pos
    · rw [if_neg h]; exact N_pos

instance Rd_payload_storable (g : GSem nD τ sig) (r : ℕ) (d : Dev nD) :
    BI.Storable (upEmb : UEmb _ 𝕄) ((Rd (F := F) m).payload g r d) := by
  show BI.Storable upEmb (if g.2 = .reg barS then iprop(∃ f, outPts d g.1.1 f)
    else if g.2 = .dma (recvS d) then outPts g.1.1 d (outAt m g.1.1)
    else if g.2 = .dma (sendS d) then yPts g.1.1 d (yAt m g.1.1) else iprop(emp))
  (repeat' split) <;> infer_instance

section Sched
variable (c t s : Dev nD)

theorem dma_ne_bar (q : DmaSem sig) : (SemLoc.dma q : SemLoc sig) ≠ .reg barS := fun h => by cases h

theorem duties_bar : (Rd (F := F) m).duties (barCell c) 0 = Finset.univ.erase c := by
  dsimp only [Rd]; rw [if_pos ⟨rfl, rfl⟩, if_pos rfl]
theorem duties_send (h : t ≠ c) : (Rd (F := F) m).duties (sendCell c t) 0 = {t} := by
  dsimp only [Rd]; rw [if_pos ⟨rfl, rfl⟩, if_neg (dma_ne_bar _)]
  ext d
  simp only [Finset.mem_filter, Finset.mem_univ, true_and, Finset.mem_singleton, SemLoc.dma.injEq, sendS_inj.eq_iff, sendS_ne_recvS, or_false]
  exact ⟨fun h' => h'.2.symm, fun h' => ⟨h' ▸ h, h'.symm⟩⟩
theorem duties_recv (h : s ≠ c) : (Rd (F := F) m).duties (recvCell c s) 0 = {s} := by
  dsimp only [Rd]; rw [if_pos ⟨rfl, rfl⟩, if_neg (dma_ne_bar _)]
  ext d
  simp only [Finset.mem_filter, Finset.mem_univ, true_and, Finset.mem_singleton, SemLoc.dma.injEq, recvS_inj.eq_iff, (sendS_ne_recvS _ _).symm, false_or]
  exact ⟨fun h' => h'.2.symm, fun h' => ⟨h' ▸ h, h'.symm⟩⟩
/-- The cells of a transfer to oneself have no duty at all, -/
theorem duties_send_self (r : ℕ) : (Rd (F := F) m).duties (sendCell c c) r = ∅ := by
  dsimp only [Rd]
  split
  · rw [if_neg (dma_ne_bar _)]
    refine Finset.filter_eq_empty_iff.mpr fun d _ h => ?_
    simp only [SemLoc.dma.injEq, sendS_inj.eq_iff, sendS_ne_recvS, or_false] at h
    exact h.1 h.2.symm
  · rfl
theorem duties_recv_self (r : ℕ) : (Rd (F := F) m).duties (recvCell c c) r = ∅ := by
  dsimp only [Rd]
  split
  · rw [if_neg (dma_ne_bar _)]
    refine Finset.filter_eq_empty_iff.mpr fun d _ h => ?_
    simp only [SemLoc.dma.injEq, recvS_inj.eq_iff, (sendS_ne_recvS _ _).symm, false_or] at h
    exact h.1 h.2.symm
  · rfl
/-- and no cell has a duty after round 0. -/
theorem duties_later (g : GSem nD τ sig) : ∀ r, 1 ≤ r → (Rd (F := F) m).duties g r = ∅ :=
  fun r hr => by dsimp only [Rd]; exact if_neg fun h => by omega

theorem amount_bar (d : Dev nD) : (Rd (F := F) m).amount (barCell c) 0 d = 1 := by dsimp only [Rd]; exact if_pos rfl
theorem amount_dma (q : DmaSem sig) (r : ℕ) (d : Dev nD) : (Rd (F := F) m).amount ((c : Thread nD τ), .dma q) r d = N := by
  dsimp only [Rd]; exact if_neg (dma_ne_bar _)

theorem expect_bar : (Rd (F := F) m).expect (barCell c) 0 = 7 := by
  unfold Schedule.expect Schedule.amountOf
  rw [duties_bar, Finset.sum_congr rfl fun d _ => amount_bar m c d, Finset.sum_const, Finset.card_erase_of_mem (Finset.mem_univ _),
    Finset.card_univ, Fintype.card_fin]
  rfl
theorem expect_send (h : t ≠ c) : (Rd (F := F) m).expect (sendCell c t) 0 = N := by
  unfold Schedule.expect Schedule.amountOf; rw [duties_send m c t h, Finset.sum_singleton, amount_dma]
theorem expect_recv (h : s ≠ c) : (Rd (F := F) m).expect (recvCell c s) 0 = N := by
  unfold Schedule.expect Schedule.amountOf; rw [duties_recv m c s h, Finset.sum_singleton, amount_dma]

theorem payload_bar (d : Dev nD) : (Rd (F := F) m).payload (barCell c) 0 d = iprop(∃ f, outPts d c f) := by
  dsimp only [Rd]; exact if_pos rfl
theorem payload_send : (Rd (F := F) m).payload (sendCell c t) 0 t = yPts c t (yAt m c) := by
  dsimp only [Rd]
  rw [if_neg (dma_ne_bar _), if_neg (fun h => sendS_ne_recvS t t (SemLoc.dma.inj h)), if_pos rfl]
theorem payload_recv : (Rd (F := F) m).payload (recvCell c s) 0 s = outPts c s (outAt m c) := by
  dsimp only [Rd]; rw [if_neg (dma_ne_bar _), if_pos rfl]

/-- A whole round brings: from the barrier cell, the rows of every other device's result that are to be filled from here; -/
theorem rest_bar : bigSep ((Rd (F := F) m).duties (barCell c) 0 \ ∅) (fun d => (Rd (F := F) m).payload (barCell c) 0 d)
    = bigSep (Finset.univ.erase c) fun d => iprop(∃ f, outPts (F := F) d c f) := by
  rw [Finset.sdiff_empty, duties_bar]; exact congrArg _ (funext fun d => payload_bar m c d)
/-- from a send cell, the source block; -/
theorem rest_send (h : t ≠ c) : bigSep ((Rd (F := F) m).duties (sendCell c t) 0 \ ∅) (fun d => (Rd (F := F) m).payload (sendCell c t) 0 d)
    = yPts c t (yAt m c) := by
  rw [Finset.sdiff_empty, duties_send m c t h, bigSep_singleton, payload_send]
/-- from a receive cell, the rows that have landed. -/
theorem rest_recv (h : s ≠ c) : bigSep ((Rd (F := F) m).duties (recvCell c s) 0 \ ∅) (fun d => (Rd (F := F) m).payload (recvCell c s) 0 d)
    = outPts c s (outAt m c) := by
  rw [Finset.sdiff_empty, duties_recv m c s h, bigSep_singleton, payload_recv]

end Sched

/-! ## What a device owes; the levels -/

/-- One unit on the barrier cell of each device in `S`, and one block on each receive cell, of the devices in `T`, that
    stands for blocks from `c`. -/
def due (c : Dev nD) (S T : Finset (Dev nD)) : CellTallies nD τ sig Unit :=
  (∑ q ∈ S, tallyAt (barCell q) () 1) + ∑ t ∈ T, tallyAt (recvCell t c) () N

theorem due_bar (c : Dev nD) {S T : Finset (Dev nD)} {q : Dev nD} (h : q ∈ S) :
    due c S T = due c (S.erase q) T + tallyAt (barCell q) () 1 := by
  unfold due; rw [← Finset.sum_erase_add S _ h, add_right_comm]
theorem due_recv (c : Dev nD) {S T : Finset (Dev nD)} {t : Dev nD} (h : t ∈ T) :
    due c S T = due c S (T.erase t) + tallyAt (recvCell t c) () N := by
  unfold due; rw [← Finset.sum_erase_add T _ h, add_assoc]
theorem due_none (c : Dev nD) : due c ∅ ∅ = 0 := by unfold due; rw [Finset.sum_empty, Finset.sum_empty, add_zero]

theorem tally_sum_pos {A : Type} (S : Finset A) (g' : A → GSem nD τ sig) (k : ℕ) {g : GSem nD τ sig} {u : Unit}
    (h : 0 < (∑ a ∈ S, tallyAt (g' a) () k : CellTallies nD τ sig Unit) g u) : ∃ a ∈ S, g = g' a := by
  classical
  induction S using Finset.induction_on with
  | empty => rw [Finset.sum_empty] at h; exact absurd h (Nat.lt_irrefl 0)
  | insert a S ha ih =>
    rw [Finset.sum_insert ha, Pi.add_apply, Finsupp.add_apply, tallyAt_apply] at h
    by_cases hg : g = g' a ∧ u = ()
    · exact ⟨a, Finset.mem_insert_self _ _, hg.1⟩
    · rw [if_neg hg, zero_add] at h
      obtain ⟨b, hb, e⟩ := ih h
      exact ⟨b, Finset.mem_insert_of_mem hb, e⟩

theorem due_pos {c : Dev nD} {S T : Finset (Dev nD)} {g : GSem nD τ sig} {u : Unit} (h : 0 < due c S T g u) :
    (∃ q ∈ S, g = barCell q) ∨ ∃ t ∈ T, g = recvCell t c := by
  unfold due at h
  rw [Pi.add_apply, Finsupp.add_apply] at h
  rcases Nat.eq_zero_or_pos ((∑ q ∈ S, tallyAt (barCell q) () 1 : CellTallies nD τ sig Unit) g u) with h0 | h0
  · rw [h0, zero_add] at h; exact .inr (tally_sum_pos T (fun t => recvCell t c) N h)
  · exact .inl (tally_sum_pos S (fun q => barCell q) 1 h0)

def L (g : GSem nD τ sig) : Finset Unit := if g.1.2 = .tc then {()} else ∅
/-- Barrier cells lie at 1, receive cells at 2, all others at 0. -/
def lv (g : GSem nD τ sig) (_ : Unit) : ℕ := if g.2 = .reg barS then 1 else if ∃ s, g.2 = .dma (recvS s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c s : Dev nD) (u : Unit) : lv (recvCell c s) u = 2 := by
  unfold lv; rw [if_neg (dma_ne_bar _), if_pos ⟨s, rfl⟩]
theorem lv_low (c : Dev nD) (q : DmaSem sig) (h : ∀ s, q ≠ recvS s) (u : Unit) : lv ((c : Thread nD τ), .dma q) u = 0 := by
  unfold lv; rw [if_neg (dma_ne_bar _), if_neg fun ⟨s, e⟩ => h s (SemLoc.dma.inj e)]

/-- A wait on a cell at level 0 is free of deadlock whatever is still owed. -/
theorem mayWait_low (c : Dev nD) (q : DmaSem sig) (h : ∀ s, q ≠ recvS s) (S T : Finset (Dev nD)) :
    (levAts L lv : sProp 𝕄) ⊢ MayWait (c : Thread nD τ) (.dma q) () (due c S T) :=
  MayOwe.of_cut (L := L) (lev := lv) 0 (fun p hp => by rw [Finset.mem_singleton.mp hp, L_tc]; exact Finset.mem_singleton_self _)
    (fun g u hg => by rcases due_pos hg with ⟨q, _, rfl⟩ | ⟨t, _, rfl⟩ <;> exact Finset.mem_singleton_self _)
    (fun p hp => by rw [Finset.mem_singleton.mp hp]; exact (lv_low c q h _).le)
    (fun g u hg => by
      rcases due_pos hg with ⟨q, _, rfl⟩ | ⟨t, _, rfl⟩
      · rw [lv_bar]; decide
      · rw [lv_recv]; decide)

/-- The barrier wait is, once every signal is out. -/
theorem mayWait_bar (c : Dev nD) (T : Finset (Dev nD)) :
    (levAts L lv : sProp 𝕄) ⊢ MayWait (c : Thread nD τ) (.reg barS) () (due c ∅ T) :=
  MayOwe.of_cut (L := L) (lev := lv) 1 (fun p hp => by rw [Finset.mem_singleton.mp hp, L_tc]; exact Finset.mem_singleton_self _)
    (fun g u hg => by rcases due_pos hg with ⟨q, _, rfl⟩ | ⟨t, _, rfl⟩ <;> exact Finset.mem_singleton_self _)
    (fun p hp => by rw [Finset.mem_singleton.mp hp]; exact (lv_bar c _).le)
    (fun g u hg => by
      rcases due_pos hg with ⟨q, hq, _⟩ | ⟨t, _, rfl⟩
      · exact absurd hq (Finset.notMem_empty _)
      · rw [lv_recv]; decide)

end Cert.KRun

end
-- ==== Proof.Steps.lean ====
/-
# The steps of the body

One lemma for each kind of step a device takes, at any device and with the place it acts on given by an equation: a signal,
the copies of `x` and of `w`'s chunks, the barrier wait, a block stored and sent, the block it keeps, the waits at the end.
-/
module

public import proofs.«01_k».proof.Proof.Schedule

@[expose] public section

noncomputable section

namespace Cert.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p` and then has `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Taking one out of a family, and putting one in -/

omit [FloatOps F] in
theorem bigSep_take {I : Type} [DecidableEq I] {S : Finset I} {i : I} (h : i ∈ S) (Φ : I → sProp 𝕄) :
    bigSep S Φ = iprop(Φ i ∗ bigSep (S.erase i) Φ) := bigSep_erase h
omit [FloatOps F] in
theorem bigSep_put {I : Type} [DecidableEq I] {S : Finset I} {i : I} (h : i ∉ S) (Φ : I → sProp 𝕄) :
    bigSep (insert i S) Φ = iprop(Φ i ∗ bigSep S Φ) := bigSep_insert h
omit [FloatOps F] in
theorem bigSep_at {I : Type} [DecidableEq I] {S : Finset I} {i : I} (h : i ∈ S) {Φ : I → sProp 𝕄} : (bigSep S Φ : sProp 𝕄) ⊢ Φ i :=
  bigSep_elim h
omit [FloatOps F] in
/-- Moving `i` from those to do to those done. -/
theorem bigSep_done {I : Type} [DecidableEq I] [Fintype I] {S : Finset I} {i : I} (h : i ∈ S) (Φ : I → sProp 𝕄) :
    bigSep (Finset.univ \ S.erase i) Φ = iprop(Φ i ∗ bigSep (Finset.univ \ S) Φ) := by
  rw [← bigSep_put (by simp [h])]
  congr 1; ext j; by_cases hj : j = i <;> simp [hj, h]

/-! ## The cells' invariants -/

/-- A device's cells: barrier, send, receive. -/
abbrev CellIx : Type := Unit ⊕ (Dev nD ⊕ Dev nD)
abbrev csem : CellIx → SemLoc sig
  | .inl _ => .reg barS
  | .inr (.inl t) => .dma (sendS t)
  | .inr (.inr s) => .dma (recvS s)
abbrev kcell (ck : Dev nD × CellIx) : GSem nD τ sig := ((ck.1 : Thread nD τ), csem ck.2)

/-- Every cell of every device runs under its invariant, and has reached round 0. -/
def records (K : Dev nD × CellIx → ℕ) : sProp 𝕄 :=
  iprop((bigSep Finset.univ fun ck : Dev nD × CellIx => cellInv EX (Rd m) (K ck) (kcell ck))
    ∗ bigSep Finset.univ fun ck : Dev nD × CellIx => reached EX (kcell ck) 0)

instance records_persistent (K : Dev nD × CellIx → ℕ) : BI.Persistent (records m K) := by unfold records; infer_instance

theorem inv_at (K : Dev nD × CellIx → ℕ) (ck : Dev nD × CellIx) : records m K ⊢ cellInv EX (Rd m) (K ck) (kcell ck) := by
  unfold records; iintro ⟨#HI, -⟩; iapply (bigSep_at (Φ := fun ck : Dev nD × CellIx => cellInv EX (Rd m) (K ck) (kcell ck)) (Finset.mem_univ ck)); iexact HI
theorem reached_at (K : Dev nD × CellIx → ℕ) (ck : Dev nD × CellIx) : records m K ⊢ reached EX (kcell ck) 0 := by
  unfold records; iintro ⟨-, #HR⟩; iapply (bigSep_at (Φ := fun ck : Dev nD × CellIx => reached EX (kcell ck) 0) (Finset.mem_univ ck)); iexact HR

variable (K : Dev nD × CellIx → ℕ)

/-- What device `c` owes, whatever it has waited on. -/
def ow (c : Dev nD) (S T : Finset (Dev nD)) : sProp 𝕄 := iprop(∃ W : Waits sig Unit, owes (c : Thread nD τ) (due c S T) W)

/-! ## The signals -/

/-- Device `c` has still to signal the devices in `S`, handing each the rows of `c`'s result which that device fills. -/
def sigSt (c : Dev nD) (S T : Finset (Dev nD)) : sProp 𝕄 :=
  iprop(ow c S T ∗ bigSep S fun q => iprop(dutyTok EX (barCell q) 0 c ∗ ∃ f, outPts (F := F) c q f))

theorem step_signal (c q : Dev nD) (hq : q ≠ c) {n : Dev nD} (hn : n = q) {S T : Finset (Dev nD)} (hS : q ∈ S) {k' : ℕ} (hk' : 1 = k')
    {α : Type} {Q : α → sProp 𝕄} {k : PUnit → Prog (TpuEff nD τ sig (Elt F) Λ₀ .tc) α} :
    iprop(records m K ∗ sigSt c S T)
      ⊢ iprop((sigSt c (S.erase q) T -∗ Runs c (k ⟨⟩) Q) -∗ Runs c (.op (.semSignal (n : Thread nD τ) barS k') k) Q) := by
  subst hn
  unfold sigSt ow
  rw [bigSep_take hS, due_bar c hS]
  iintro ⟨#HR, ⟨%W, HO⟩, ⟨Ht, Hf⟩, Hrest⟩ Hk
  iapply (Rounds.wp_signal 𝒱₀ EX (Rd m) (c : Thread nD τ) none (dst := (n : Thread nD τ)) (κ := K (n, .inl ()))
      (d := c) (by rw [duties_bar]; exact Finset.mem_erase.mpr ⟨hq.symm, Finset.mem_univ _⟩) ((amount_bar m n c).trans hk') ()
      (O₀ := due c (S.erase n) T + tallyAt (barCell n) () 1) (due c (S.erase n) T) (by rw [hk']))
    $$ [HO Ht Hf]
  · isplitr; · iapply (inv_at m K (n, .inl ())); iexact HR
    isplitl [HO]; · iexact HO
    isplitl [Ht]; · iexact Ht
    isplitl [Hf]; · rw [payload_bar]; iexact Hf
    iapply (reached_at m K (n, .inl ())); iexact HR
  iintro HO
  iapply Hk
  isplitl [HO]; · iexists W; iexact HO
  iexact Hrest

/-! ## Copies within the device -/

omit [FloatOps F] in
/-- What is written through a view is what the view reads as written. -/
theorem pts_write (c : Dev nD) {sp : Space} {s : Shape} {e : EltTy} (v : View sig .tc sp s e) {S : Finset (Idx (v.loc (c : Thread nD τ)))} (hS : v.set = S)
    (f g : Buf (Elt F) (v.loc (c : Thread nD τ))) {w : s.Idx → Elt F e} (h : v.read (Elt F) g = w) :
    (v.loc (c : Thread nD τ) ↦[S]{fullShare} (v.write (Elt F) f w Finset.univ) : sProp 𝕄) = (v.loc (c : Thread nD τ) ↦[S]{fullShare} g) := by
  subst hS; exact pointsTo_congr (write_eq v f g w h)

/-- A copy within the device whose source reads as `g` reads at the destination leaves `g` there. -/
theorem step_copy (c : Dev nD) {sp sp' : Space} {s : Shape} {e : EltTy} {src : Memref sig .tc sp s e} {dst : Memref sig .tc sp' s e} {sm : DmaSem sig}
    {hsrc : src.view.WordExact} {hdst : dst.view.WordExact}
    {hsem : DmaTarget.Typed sp (.dma sm) (DmaTarget.here (nD := nD) (p := (.tc : Proc τ)) dst)} {q : PosShare TreeShare}
    {fs : Buf (Elt F) (src.view.loc (c : Thread nD τ))} {fd g : Buf (Elt F) (dst.view.loc (c : Thread nD τ))}
    {Ss : Finset (Idx (src.view.loc (c : Thread nD τ)))} {Sd : Finset (Idx (dst.view.loc (c : Thread nD τ)))}
    (hSs : src.view.set = Ss) (hSd : dst.view.set = Sd) (hg : dst.view.read (Elt F) g = src.view.read (Elt F) fs) (hs : 0 < s.numel)
    {α : Type} {Q : α → sProp 𝕄} {k : PUnit → Prog (TpuEff nD τ sig (Elt F) Λ₀ .tc) α} :
    iprop((src.view.loc (c : Thread nD τ) ↦[Ss]{q} fs) ∗ (dst.view.loc (c : Thread nD τ) ↦[Sd]{fullShare} fd) ∗ semVal ((c : Thread nD τ), .dma sm) 0)
      ⊢ iprop((Flight EC (c : Thread nD τ) (.dma sm) () dst.view.dmaCredit
            iprop((dst.view.loc (c : Thread nD τ) ↦[Sd]{fullShare} g) ∗ (src.view.loc (c : Thread nD τ) ↦[Ss]{q} fs)) -∗ Runs c (k ⟨⟩) Q)
          -∗ Runs c (.op (.enqueueDma src (.here dst) (.dma sm) hsrc hdst hsem) k) Q) := by
  have e := pts_write c dst.view hSd fd g hg
  subst hSs hSd
  have h := wp_dmaLocal (defs := defs₀ (F := F)) EC 𝒱₀ (c : Thread nD τ) none (Q := Q) (k := k) (hsrc := hsrc) (hdst := hdst) (hsem := hsem)
    (via := ReadAs.same) (q := q) (fs := fs) (fd := fd) () dst.view.dmaCredit rfl (View.dmaCredit_pos _ hs) (Finset.Subset.refl _)
  rw [← e]
  exact h

/-- The wait for a copy within the device. -/
theorem step_wait (c : Dev nD) {sp sp' : Space} {s s' : Shape} {e e' : EltTy} {srcw : Memref sig .tc sp' s' e'} {dstw : Memref sig .tc sp s e} {sm : DmaSem sig}
    {hsrc : srcw.view.WordExact} {hdst : dstw.view.WordExact} (hlow : ∀ d, sm ≠ recvS d) {n : ℕ} (hn : dstw.view.dmaCredit = n) {D : sProp 𝕄}
    {S T : Finset (Dev nD)} {α : Type} {Q : α → sProp 𝕄} {k : PUnit → Prog (TpuEff nD τ sig (Elt F) Λ₀ .tc) α} :
    iprop(Flight EC (c : Thread nD τ) (.dma sm) () n D ∗ ow c S T ∗ levAts L lv)
      ⊢ iprop((iprop(D ∗ semVal ((c : Thread nD τ), .dma sm) 0 ∗ ow c S T) -∗ Runs c (k ⟨⟩) Q)
          -∗ Runs c (.op (.waitDma2 sm srcw dstw hsrc hdst) k) Q) := by
  unfold ow
  iintro ⟨HF, ⟨%W, HO⟩, #HL⟩ Hk
  iapply (wp_waitLocalO EC 𝒱₀ (c : Thread nD τ) none () hn (O := due c S T) (W := W)) $$ [HF HO]
  · isplitl [HF]; · iexact HF
    isplitl [HO]; · iexact HO
    iapply (mayWait_low c sm hlow S T); iexact HL
  iintro ⟨HD, Hv, HO⟩
  iapply Hk
  isplitl [HD]; · iexact HD
  isplitl [Hv]; · iexact Hv
  iexists _; iexact HO

/-! ## The copy of `x` -/

def xPts (c : Dev nD) : sProp 𝕄 := ((c : Thread nD τ).loc main_arg0) ↦{fullShare} xAt m c
def xfPts (c : Dev nD) (f : S512x4096.Idx → Elt F .f32) : sProp 𝕄 := ((c : Thread nD τ).loc cc0_scratch0) ↦{fullShare} f

/-- The copy of `x` under way. -/
def xFlight (c : Dev nD) : sProp 𝕄 :=
  Flight EC (c : Thread nD τ) (.dma xloadS) () (xfM.view.dmaCredit) iprop(xfPts c (xAt m c) ∗ xPts m c)

theorem xload_low : ∀ d, xloadS ≠ recvS d := by decide

theorem step_xload (c : Dev nD) {hsrc : xM.view.WordExact} {hdst : xfM.view.WordExact}
    {hsem : DmaTarget.Typed .hbm (.dma xloadS) (DmaTarget.here (nD := nD) (p := (.tc : Proc τ)) xfM)}
    {α : Type} {Q : α → sProp 𝕄} {k : PUnit → Prog (TpuEff nD τ sig (Elt F) Λ₀ .tc) α} :
    iprop(xPts m c ∗ (∃ f, xfPts c f) ∗ semVal ((c : Thread nD τ), .dma xloadS) 0)
      ⊢ iprop((xFlight m c -∗ Runs c (k ⟨⟩) Q) -∗ Runs c (.op (.enqueueDma xM (.here xfM) (.dma xloadS) hsrc hdst hsem) k) Q) := by
  unfold xFlight xPts xfPts
  iintro ⟨Hx, ⟨%f, Hf⟩, Hv⟩ Hk
  iapply (step_copy c (src := xM) (dst := xfM) (fd := f) (View.set_whole _) (View.set_whole _) (g := xAt m c) rfl (by decide)) $$ [Hx Hf Hv]
  · isplitl [Hx]; · iexact Hx
    isplitl [Hf] <;> iassumption
  iexact Hk

theorem step_xwait (c : Dev nD) {hsrc : xM.view.WordExact} {hdst : xfM.view.WordExact} {S T : Finset (Dev nD)}
    {α : Type} {Q : α → sProp 𝕄} {k : PUnit → Prog (TpuEff nD τ sig (Elt F) Λ₀ .tc) α} :
    iprop(xFlight m c ∗ ow c S T ∗ levAts L lv)
      ⊢ iprop((iprop((xfPts c (xAt m c) ∗ xPts m c) ∗ semVal ((c : Thread nD τ), .dma xloadS) 0 ∗ ow c S T) -∗ Runs c (k ⟨⟩) Q)
          -∗ Runs c (.op (.waitDma2 xloadS xM xfM hsrc hdst) k) Q) :=
  step_wait c xload_low rfl

theorem step_xread (c : Dev nD) (inb) {hl} {α : Type} {Q : α → sProp 𝕄} {k : (S512x4096.Idx → Elt F .f32) → Prog (TpuEff nD τ sig (Elt F) Λ₀ .tc) α} :
    xfPts c (xAt m c)
      ⊢ iprop((xfPts c (xAt m c) -∗ Runs c (k (xAt m c)) Q)
          -∗ Runs c (.op (.load xfM (Rect.unit (s := S512x4096) ![0, 0] S512x4096.size inb).toLoadRect hl) k) Q) := by
  have h := wp_load (defs := defs₀ (F := F)) 𝒱₀ (c : Thread nD τ) none (Γ := .empty) Set.univ (m := xfM) (hl := hl) (k := k) (Q := Q) (q := fullShare) (f := xAt m c) (Finset.subset_univ _)
  rw [show xfM.view.readAt (Elt F) (Rect.unit (s := S512x4096) ![0, 0] S512x4096.size inb).toLoadRect (xAt m c) = xAt m c from
    Memref.readAt_unit_zero (Elt F) cc0_scratch0 (funext fun a => by fin_cases a <;> rfl) _ _] at h
  exact h

/-! ## The copies of `w`'s chunks -/

/-- The semaphore of slot `b`. -/
def loadS (b : Fin 2) : DmaSem sig :=
  ((cc0_scratch4.slice (Rect.unit (s := S2) ![b.val] S1.size (by revert b; decide))).squeeze S_ squeezes_S1_S_).sem
theorem loadS_low (b : Fin 2) : ∀ d, loadS b ≠ recvS d := by revert b; decide

/-- Half of `w` serves each slot. -/
def wShare (b : Fin 2) : PosShare TreeShare := if b = 0 then fullShare.left else fullShare.right
def wPts (c : Dev nD) (b : Fin 2) : sProp 𝕄 := ((c : Thread nD τ).loc main_arg1) ↦{wShare b} wAt m c
def wfPts (c : Dev nD) (b : Fin 2) (f : S2x4096x512.Idx → Elt F .f32) : sProp 𝕄 := ((c : Thread nD τ).loc cc0_scratch1) ↦[wBlk b]{fullShare} f

/-- The copy of chunk `q` into slot `b` under way. -/
def wFlight (c : Dev nD) (b : Fin 2) (q : Fin 4) : sProp 𝕄 :=
  iprop(∃ I : Finset (Idx ((c : Thread nD τ).loc main_arg1)),
    Flight EC (c : Thread nD τ) (.dma (loadS b)) () ((cc0_scratch1 : Ref sig .tc).dmaCredit S4096x512 .f32)
      iprop(wfPts c b (slotAt m c q) ∗ (((c : Thread nD τ).loc main_arg1) ↦[I]{wShare b} wAt m c))
    ∗ (((c : Thread nD τ).loc main_arg1) ↦[Finset.univ \ I]{wShare b} wAt m c))

theorem step_wload (c : Dev nD) (b : Fin 2) (q : Fin 4) {off : Fin 3 → ℕ} (h : off = ![b.val, 0, 0]) {inb hr}
    {off' : Fin 2 → ℕ} (h' : off' = ![0, 512 * q.val]) {inb' hr'} {sm : DmaSem sig} (hsm : sm = loadS b)
    {hsrc : (wM.slice (Rect.unit (s := S4096x2048) off' S4096x512.size inb') hr').view.WordExact}
    {hdst : ((wfM.slice (Rect.unit (s := S2x4096x512) off S1x4096x512.size inb) hr).squeeze S4096x512 squeezes_S1x4096x512_S4096x512).view.WordExact}
    {hsem : DmaTarget.Typed .hbm (.dma sm) (DmaTarget.here (nD := nD) (p := (.tc : Proc τ))
      ((wfM.slice (Rect.unit (s := S2x4096x512) off S1x4096x512.size inb) hr).squeeze S4096x512 squeezes_S1x4096x512_S4096x512))}
    {α : Type} {Q : α → sProp 𝕄} {k : PUnit → Prog (TpuEff nD τ sig (Elt F) Λ₀ .tc) α} :
    iprop(wPts m c b ∗ (∃ f, wfPts c b f) ∗ semVal ((c : Thread nD τ), .dma (loadS b)) 0)
      ⊢ iprop((wFlight m c b q -∗ Runs c (k ⟨⟩) Q)
          -∗ Runs c (.op (.enqueueDma (wM.slice (Rect.unit (s := S4096x2048) off' S4096x512.size inb') hr')
              (.here ((wfM.slice (Rect.unit (s := S2x4096x512) off S1x4096x512.size inb) hr).squeeze S4096x512 squeezes_S1x4096x512_S4096x512))
              (.dma sm) hsrc hdst hsem) k) Q) := by
  subst hsm
  unfold wFlight wPts wfPts
  iintro ⟨Hw, ⟨%f, Hf⟩, Hv⟩ Hk
  ihave Hw' := (pointsTo_split_subset (Finset.subset_univ (wM.slice (Rect.unit (s := S4096x2048) off' S4096x512.size inb') hr').view.set)).1 $$ Hw
  icases Hw' with ⟨Hw1, Hw2⟩
  iapply (step_copy c (src := wM.slice (Rect.unit (s := S4096x2048) off' S4096x512.size inb') hr') (fs := wAt m c) (q := wShare b)
    (dst := (wfM.slice (Rect.unit (s := S2x4096x512) off S1x4096x512.size inb) hr).squeeze S4096x512 squeezes_S1x4096x512_S4096x512) (fd := f)
    rfl (w_sq_set b h inb hr) (g := slotAt m c q) (w_sq_read m c q b h inb hr h' inb' hr') (show 0 < S4096x512.numel by decide)) $$ [Hw1 Hf Hv]
  · isplitl [Hw1]; · iexact Hw1
    isplitl [Hf] <;> iassumption
  iintro HF
  iapply Hk
  iexists (wM.slice (Rect.unit (s := S4096x2048) off' S4096x512.size inb') hr').view.set
  isplitl [HF]; · iexact HF
  iexact Hw2

theorem step_wwait (c : Dev nD) (b : Fin 2) (q : Fin 4) {sp' : Space} {s' : Shape} {e' : EltTy} {srcw : Memref sig .tc sp' s' e'}
    {dstw : Memref sig .tc .vmem S4096x512 .f32} (hn : dstw.view.dmaCredit = (cc0_scratch1 : Ref sig .tc).dmaCredit S4096x512 .f32)
    {sm : DmaSem sig} (hsm : sm = loadS b)
    {hsrc : srcw.view.WordExact} {hdst : dstw.view.WordExact} {S T : Finset (Dev nD)}
    {α : Type} {Q : α → sProp 𝕄} {k : PUnit → Prog (TpuEff nD τ sig (Elt F) Λ₀ .tc) α} :
    iprop(wFlight m c b q ∗ ow c S T ∗ levAts L lv)
      ⊢ iprop((iprop(wfPts c b (slotAt m c q) ∗ wPts m c b ∗ semVal ((c : Thread nD τ), .dma (loadS b)) 0 ∗ ow c S T) -∗ Runs c (k ⟨⟩) Q)
          -∗ Runs c (.op (.waitDma2 sm srcw dstw hsrc hdst) k) Q) := by
  subst hsm
  unfold wFlight
  iintro ⟨⟨%I, HF, Hw2⟩, HO, HL⟩ Hk
  iapply (step_wait c (loadS_low b) hn (S := S) (T := T)) $$ [HF HO HL]
  · isplitl [HF]; · iexact HF
    isplitl [HO] <;> iassumption
  iintro ⟨⟨Hf, Hw1⟩, Hv, HO⟩
  iapply Hk
  isplitl [Hf]; · iexact Hf
  isplitl [Hw1 Hw2]
  · unfold wPts
    iapply (pointsTo_split_subset (Finset.subset_univ I)).2
    isplitl [Hw1] <;> iassumption
  isplitl [Hv] <;> iassumption

theorem step_wread (c : Dev nD) (b : Fin 2) (q : Fin 4) {off : Fin 3 → ℕ} (h : off = ![b.val, 0, 0]) {inb hl}
    {α : Type} {Q : α → sProp 𝕄} {k : (S1x4096x512.Idx → Elt F .f32) → Prog (TpuEff nD τ sig (Elt F) Λ₀ .tc) α} :
    wfPts c b (slotAt m c q)
      ⊢ iprop((wfPts c b (slotAt m c q) -∗ Runs c (k (chunk m c q)) Q)
          -∗ Runs c (.op (.load wfM (Rect.unit (s := S2x4096x512) off S1x4096x512.size inb).toLoadRect hl) k) Q) := by
  have h' := wp_load_rect (defs := defs₀ (F := F)) 𝒱₀ (c : Thread nD τ) none (Γ := .empty) Set.univ (m := wfM) (r := Rect.unit (s := S2x4096x512) off S1x4096x512.size inb)
    (hl := hl) (k := k) (Q := Q) (q := fullShare) (f := slotAt m c q) (S := wBlk b) (by rw [w_set b h inb])
  rw [w_read m c q b h inb] at h'
  exact h'

/-! ## The barrier wait -/

theorem step_barrier (c : Dev nD) (T : Finset (Dev nD)) {k' : ℕ} (hk' : 7 = k')
    {α : Type} {Q : α → sProp 𝕄} {k : PUnit → Prog (TpuEff nD τ sig (Elt F) Λ₀ .tc) α} :
    iprop(records m K ∗ cred (tallyAt (barCell c) () 7) ∗ ow c ∅ T ∗ levAts L lv ∗ atPos EX (barCell c) 0 ∅ 0)
      ⊢ iprop((iprop(ow c ∅ T ∗ atPos EX (barCell c) 1 ∅ 0 ∗ bigSep (Finset.univ.erase c) fun d => iprop(∃ f, outPts (F := F) d c f)) -∗ Runs c (k ⟨⟩) Q)
          -∗ Runs c (.op (.semWait barS k') k) Q) := by
  unfold ow
  iintro ⟨#HR, Hc, ⟨%W, HO⟩, #HL, Hat⟩ Hk
  iapply (Rounds.wp_wait_rest_token 𝒱₀ EX (Rd m) (c : Thread nD τ) none (κ := K (c, .inl ()))
      (wpE_semWait_eq 𝒱₀ (c : Thread nD τ) none Set.univ) (Set.mem_univ _) () (O := due c ∅ T) (W := W) (R := 0) (m := 0) (T := ∅)
      (by rw [expect_bar, Nat.zero_add, hk'])) $$ [Hc HO Hat]
  · isplitr; · iapply (inv_at m K (c, .inl ())); iexact HR
    isplitl [Hc]; · rw [← hk']; iexact Hc
    isplitl [HO]; · iexact HO
    isplitr; · iapply (mayWait_bar c T); iexact HL
    iexact Hat
  iintro ⟨HO, Hat, -, Hpay⟩
  ihave Hp := (Entails.of_eq (rest_bar m c)) $$ Hpay
  iapply Hk
  isplitl [HO]; · iexists _; iexact HO
  isplitl [Hat] <;> iassumption

/-! ## The blocks -/

/-- The blocks for the devices in `S` are still to be made: their places are free, and for every device but `c` itself the
    place it lands in and the right to send it are at hand. The others are sent, or kept if `c`'s own. -/
def blkTodo (c t : Dev nD) : sProp 𝕄 :=
  if t = c then iprop(emp)
  else iprop((∃ f, outPts (F := F) t c f) ∗ dutyTok EX (sendCell c t) 0 t ∗ dutyTok EX (recvCell t c) 0 c)
def blkDone (c t : Dev nD) : sProp 𝕄 := if t = c then yPts c c (yAt m c) else cred (tallyAt (sendCell c t) () N)
def blkSt (c : Dev nD) (S : Finset (Dev nD)) : sProp 𝕄 :=
  iprop(ow c ∅ (S.erase c) ∗ (bigSep S fun t => iprop((∃ f, yPts (F := F) c t f) ∗ blkTodo c t)) ∗ bigSep (Finset.univ \ S) (blkDone m c))
/-- Block `t` is made and not yet sent. -/
def blkMid (c t : Dev nD) (S : Finset (Dev nD)) : sProp 𝕄 :=
  iprop(ow c ∅ (S.erase c) ∗ (yPts c t (yAt m c) ∗ blkTodo c t) ∗ (bigSep (S.erase t) fun t => iprop((∃ f, yPts (F := F) c t f) ∗ blkTodo c t))
    ∗ bigSep (Finset.univ \ S) (blkDone m c))

/-- A block's place is read, the block stored in it. -/
theorem step_store (c t : Dev nD) {S : Finset (Dev nD)} (hS : t ∈ S) {off : Fin 3 → ℕ} (h : off = ![t.val, 0, 0]) {inb : ∀ a, off a + S1x512x256.size a ≤ S8x512x256.size a} {hl}
    {v : S1x512x256.Idx → Elt F .bf16} (hv : v = blockVal m c t) {hx hm}
    {α : Type} {Q : α → sProp 𝕄} {k : PUnit → Prog (TpuEff nD τ sig (Elt F) Λ₀ .tc) α} :
    blkSt m c S ⊢ iprop((blkMid m c t S -∗ Runs c (k ⟨⟩) Q)
      -∗ Runs c (.op (.load yM (Rect.unit (s := S8x512x256) off S1x512x256.size inb).toLoadRect hl)
          fun _ => .op (.store yM (Rect.unit (s := S8x512x256) off S1x512x256.size inb) v Finset.univ hx hm) k) Q) := by
  subst hv
  unfold blkSt blkMid yPts
  rw [bigSep_take hS]
  iintro ⟨HO, ⟨⟨⟨%f, Hy⟩, Ht⟩, Hrest⟩, Hd⟩ Hk
  iapply (wp_load_rect 𝒱₀ (c : Thread nD τ) none Set.univ (m := yM) (r := Rect.unit (s := S8x512x256) off S1x512x256.size inb) (by rw [y_set t h inb])) $$ Hy
  iintro Hy
  iapply (wp_store 𝒱₀ (c : Thread nD τ) none Set.univ (m := yM) (r := Rect.unit (s := S8x512x256) off S1x512x256.size inb) (Mk := Finset.univ)
    (S := yBlk t) (by rw [← y_set t h inb]; exact Finset.Subset.refl _)) $$ Hy
  iintro Hy
  iapply Hk
  isplitl [HO]; · iexact HO
  isplitl [Hy Ht]
  · isplitl [Hy]
    · iapply (Entails.of_eq (pts_write c (yM.access (Rect.unit (s := S8x512x256) off S1x512x256.size inb)) (y_set t h inb) f (yAt m c) (y_read m c t h inb))); iexact Hy
    iexact Ht
  isplitl [Hrest] <;> iassumption

/-- A block made for another device is sent. -/
theorem step_send (c t : Dev nD) (htc : t ≠ c) {S : Finset (Dev nD)} (hS : t ∈ S) {n : Dev nD} (hn : n = t)
    {off : Fin 3 → ℕ} (h : off = ![t.val, 0, 0]) {inb hr} {off' : Fin 2 → ℕ} (h' : off' = ![512 * c.val, 0]) {inb' hr'}
    {sS sR : DmaSem sig} (hsS : sS = sendS t) (hsR : sR = recvS c)
    {hsc : (oM.slice (Rect.unit (s := S4096x256) off' S512x256.size inb') hr').view.ref.isScScratch = false}
    {hsrc : ((yM.slice (Rect.unit (s := S8x512x256) off S1x512x256.size inb) hr).squeeze S512x256 squeezes_S1x512x256_S512x256).view.WordExact}
    {hdst : (oM.slice (Rect.unit (s := S4096x256) off' S512x256.size inb') hr').view.WordExact}
    {hsem : DmaTarget.Typed .vmem (.dma sR) (DmaTarget.remote (nD := nD) (p := (.tc : Proc τ)) (Dev.tc n : Thread nD τ) (oM.slice (Rect.unit (s := S4096x256) off' S512x256.size inb') hr') (.dma sS) hsc)}
    {α : Type} {Q : α → sProp 𝕄} {k : PUnit → Prog (TpuEff nD τ sig (Elt F) Λ₀ .tc) α} :
    iprop(records m K ∗ blkMid m c t S) ⊢ iprop((blkSt m c (S.erase t) -∗ Runs c (k ⟨⟩) Q)
      -∗ Runs c (.op (.enqueueDma ((yM.slice (Rect.unit (s := S8x512x256) off S1x512x256.size inb) hr).squeeze S512x256 squeezes_S1x512x256_S512x256)
          (.remote (Dev.tc n : Thread nD τ) (oM.slice (Rect.unit (s := S4096x256) off' S512x256.size inb') hr') (.dma sS) hsc) (.dma sR) hsrc hdst hsem) k) Q) := by
  subst hn hsS hsR
  unfold blkSt blkMid
  rw [bigSep_done hS]
  unfold blkTodo blkDone ow
  rw [if_neg htc, if_neg htc]
  iintro ⟨#HR, ⟨%W, HO⟩, ⟨Hy, ⟨%fd, Hout⟩, Hts, Htr⟩, Hrest, Hd⟩ Hk
  have hmem : n ∈ S.erase c := Finset.mem_erase.mpr ⟨htc, hS⟩
  have hset := y_sq_set n h inb hr
  have hset' : (oM.slice (Rect.unit (s := S4096x256) off' S512x256.size inb') hr').view.set = outBlk c := out_set c h' inb'
  have hread : (oM.slice (Rect.unit (s := S4096x256) off' S512x256.size inb') hr').view.read (Elt F) (outAt m n)
      = ((yM.slice (Rect.unit (s := S8x512x256) off S1x512x256.size inb) hr).squeeze S512x256 squeezes_S1x512x256_S512x256).view.read (Elt F) (yAt m c) :=
    (out_read m c n h' inb').trans (y_sq_read m c n h inb hr).symm
  iapply (Rounds.wp_send_pointsTo 𝒱₀ EX (Rd m) (c : Thread nD τ) none (κ₁ := K (c, .inr (.inl n))) (κ₂ := K (n, .inr (.inr c)))
      (r₁ := 0) (r₂ := 0) (d₁ := n) (d₂ := c) (fs := yAt m c) (fd := fd) (q := fullShare)
      (by rw [duties_send m c n htc]; exact Finset.mem_singleton_self _) (by rw [duties_recv m n c htc.symm]; exact Finset.mem_singleton_self _)
      () () N rfl (amount_dma m c _ 0 n) (amount_dma m n _ 0 c) (O₀ := due c ∅ (S.erase c)) (due c ∅ ((S.erase c).erase n)) (due_recv c hmem) (W := W)
      (by rw [payload_send, hset]; unfold yPts; exact BI.Entails.refl _)
      (by rw [payload_recv, hset']; exact Entails.of_eq (pts_write n _ hset' fd (outAt m n) hread))) $$ [Hy Hout HO Hts Htr]
  · isplitr; · iapply (inv_at m K (c, .inr (.inl n))); iexact HR
    isplitr; · iapply (inv_at m K (n, .inr (.inr c))); iexact HR
    isplitl [Hy]; · rw [hset]; unfold yPts; iexact Hy
    isplitl [Hout]; · rw [hset']; unfold outPts; iexact Hout
    isplitl [HO]; · iexact HO
    isplitl [Hts]; · iexact Hts
    isplitr; · iapply (reached_at m K (c, .inr (.inl n))); iexact HR
    isplitl [Htr]; · iexact Htr
    iapply (reached_at m K (n, .inr (.inr c))); iexact HR
  iintro ⟨Hc, HO⟩
  iapply Hk
  rw [Finset.erase_right_comm]
  isplitl [HO]; · iexists W; iexact HO
  isplitl [Hrest]; · iexact Hrest
  isplitl [Hc] <;> iassumption

/-- The block `c` makes for itself is kept. -/
theorem blk_keep (c t : Dev nD) (htc : t = c) {S : Finset (Dev nD)} (hS : t ∈ S) : blkMid m c t S ⊢ blkSt m c (S.erase t) := by
  subst htc
  unfold blkSt blkMid
  rw [bigSep_done hS, Finset.erase_idem]
  unfold blkDone
  rw [if_pos rfl]
  iintro ⟨HO, ⟨Hy, -⟩, Hrest, Hd⟩
  isplitl [HO]; · iexact HO
  isplitl [Hrest]; · iexact Hrest
  isplitl [Hy] <;> iassumption

/-- The kept block is copied to the device's own rows of its result. -/
theorem step_own (c : Dev nD) {off : Fin 3 → ℕ} (h : off = ![c.val, 0, 0]) {inb : ∀ a, off a + S1x512x256.size a ≤ S8x512x256.size a} {hl}
    {off' : Fin 2 → ℕ} (h' : off' = ![512 * c.val, 0]) {inb' : ∀ a, off' a + S512x256.size a ≤ S4096x256.size a} {hl'}
    {hx : ∀ v : S1x512x256.Idx → Elt F .bf16, _} {hm}
    {α : Type} {Q : α → sProp 𝕄} {k : PUnit → Prog (TpuEff nD τ sig (Elt F) Λ₀ .tc) α} :
    iprop(yPts c c (yAt m c) ∗ ∃ f, outPts (F := F) c c f) ⊢ iprop((iprop(yPts c c (yAt m c) ∗ outPts c c (outAt m c)) -∗ Runs c (k ⟨⟩) Q)
      -∗ Runs c (.op (.load yM (Rect.unit (s := S8x512x256) off S1x512x256.size inb).toLoadRect hl)
          fun v => .op (.load oM (Rect.unit (s := S4096x256) off' S512x256.size inb').toLoadRect hl')
          fun _ => .op (.store oM (Rect.unit (s := S4096x256) off' S512x256.size inb') (k0_pay17 v) Finset.univ (hx v) hm) k) Q) := by
  unfold yPts outPts
  iintro ⟨Hy, ⟨%f, Ho⟩⟩ Hk
  iapply (wp_load_rect 𝒱₀ (c : Thread nD τ) none Set.univ (m := yM) (r := Rect.unit (s := S8x512x256) off S1x512x256.size inb) (by rw [y_set c h inb])) $$ Hy
  iintro Hy
  rw [y_read m c c h inb]
  iapply (wp_load_rect 𝒱₀ (c : Thread nD τ) none Set.univ (m := oM) (r := Rect.unit (s := S4096x256) off' S512x256.size inb') (by rw [out_set c h' inb'])) $$ Ho
  iintro Ho
  iapply (wp_store 𝒱₀ (c : Thread nD τ) none Set.univ (m := oM) (r := Rect.unit (s := S4096x256) off' S512x256.size inb') (Mk := Finset.univ)
    (S := outBlk c) (by rw [← out_set c h' inb']; exact Finset.Subset.refl _)) $$ Ho
  iintro Ho
  iapply Hk
  isplitl [Hy]; · iexact Hy
  iapply (Entails.of_eq (pts_write c (oM.access (Rect.unit (s := S4096x256) off' S512x256.size inb')) (out_set c h' inb') f (outAt m c) (out_read m c c h' inb'))); iexact Ho

/-! ## The waits at the end -/

/-- The blocks from the devices in `S` are still to be waited for, but for `c`'s own, which is in place. -/
def recvTodo (c s : Dev nD) : sProp 𝕄 :=
  iprop(atPos EX (recvCell c s) 0 ∅ 0 ∗ if s = c then outPts c s (outAt m c) else cred (tallyAt (recvCell c s) () N))
def recvDone (c s : Dev nD) : sProp 𝕄 :=
  iprop(atPos EX (recvCell c s) (if s = c then 0 else 1) ∅ 0 ∗ outPts c s (outAt m c))
def recvSt (c : Dev nD) (S : Finset (Dev nD)) : sProp 𝕄 :=
  iprop(ow c ∅ ∅ ∗ bigSep S (recvTodo m c) ∗ bigSep (Finset.univ \ S) (recvDone m c))

theorem step_recv (c s : Dev nD) (hsc : s ≠ c) {S : Finset (Dev nD)} (hS : s ∈ S) {sm : DmaSem sig} (hsm : sm = recvS s)
    {sp sp' : Space} {s₁ s₂ : Shape} {e₁ e₂ : EltTy} {srcw : Memref sig .tc sp s₁ e₁} {dstw : Memref sig .tc sp' s₂ e₂} (hn : dstw.view.dmaCredit = N)
    {hsrc : srcw.view.WordExact} {hdst : dstw.view.WordExact}
    {α : Type} {Q : α → sProp 𝕄} {k : PUnit → Prog (TpuEff nD τ sig (Elt F) Λ₀ .tc) α} :
    iprop(records m K ∗ recvSt m c S) ⊢ iprop((recvSt m c (S.erase s) -∗ Runs c (k ⟨⟩) Q) -∗ Runs c (.op (.waitDma2 sm srcw dstw hsrc hdst) k) Q) := by
  subst hsm
  unfold recvSt ow
  rw [bigSep_done hS, bigSep_take hS, due_none]
  unfold recvTodo recvDone
  rw [if_neg hsc, if_neg hsc]
  iintro ⟨#HR, ⟨%W, HO⟩, ⟨⟨Hat, Hc⟩, Hrest⟩, Hd⟩ Hk
  iapply (Rounds.wp_wait_rest_token 𝒱₀ EX (Rd m) (c : Thread nD τ) none (κ := K (c, .inr (.inr s)))
      (wpE_waitDma2_eq 𝒱₀ (c : Thread nD τ) none Set.univ) (Set.mem_univ _) () (O := 0) (W := W) (R := 0) (m := 0) (T := ∅)
      (by rw [expect_recv m c s hsc, Nat.zero_add]; exact hn)) $$ [Hc HO Hat]
  · isplitr; · iapply (inv_at m K (c, .inr (.inr s))); iexact HR
    isplitl [Hc]; · rw [hn]; iexact Hc
    isplitl [HO]; · iexact HO
    isplitr; · rw [MayWait_zero]; iempintro
    iexact Hat
  iintro ⟨HO, Hat, -, Hpay⟩
  ihave Hp := (Entails.of_eq (rest_recv m c s hsc)) $$ Hpay
  iapply Hk
  isplitl [HO]; · iexists _; iexact HO
  isplitl [Hrest]; · iexact Hrest
  isplitl [Hat Hp]
  · isplitl [Hat] <;> iassumption
  iexact Hd

theorem recv_keep (c s : Dev nD) (hsc : s = c) {S : Finset (Dev nD)} (hS : s ∈ S) : recvSt m c S ⊢ recvSt m c (S.erase s) := by
  unfold recvSt
  rw [bigSep_done hS, bigSep_take hS]
  unfold recvTodo recvDone
  rw [if_pos hsc, if_pos hsc]
  iintro ⟨HO, ⟨H, Hrest⟩, Hd⟩
  isplitl [HO]; · iexact HO
  isplitl [Hrest]; · iexact Hrest
  isplitl [H] <;> iassumption

/-- The transfers to the devices in `S` have still to give their source back. -/
def sendTodo (c t : Dev nD) : sProp 𝕄 :=
  iprop(atPos EX (sendCell c t) 0 ∅ 0 ∗ if t = c then yPts c t (yAt m c) else cred (tallyAt (sendCell c t) () N))
def sendDone (c t : Dev nD) : sProp 𝕄 :=
  iprop(atPos EX (sendCell c t) (if t = c then 0 else 1) ∅ 0 ∗ yPts c t (yAt m c))
def sendSt (c : Dev nD) (S : Finset (Dev nD)) : sProp 𝕄 :=
  iprop(ow c ∅ ∅ ∗ bigSep S (sendTodo m c) ∗ bigSep (Finset.univ \ S) (sendDone m c))

theorem step_sent (c t : Dev nD) (htc : t ≠ c) {S : Finset (Dev nD)} (hS : t ∈ S) {sm : DmaSem sig} (hsm : sm = sendS t)
    {sp sp' : Space} {s₁ s₂ : Shape} {e₁ e₂ : EltTy} {srcw : Memref sig .tc sp s₁ e₁} {dstw : Memref sig .tc sp' s₂ e₂} (hn : dstw.view.dmaCredit = N)
    {hsrc : srcw.view.WordExact} {hdst : dstw.view.WordExact}
    {α : Type} {Q : α → sProp 𝕄} {k : PUnit → Prog (TpuEff nD τ sig (Elt F) Λ₀ .tc) α} :
    iprop(records m K ∗ sendSt m c S) ⊢ iprop((sendSt m c (S.erase t) -∗ Runs c (k ⟨⟩) Q) -∗ Runs c (.op (.waitDma2 sm srcw dstw hsrc hdst) k) Q) := by
  subst hsm
  unfold sendSt ow
  rw [bigSep_done hS, bigSep_take hS, due_none]
  unfold sendTodo sendDone
  rw [if_neg htc, if_neg htc]
  iintro ⟨#HR, ⟨%W, HO⟩, ⟨⟨Hat, Hc⟩, Hrest⟩, Hd⟩ Hk
  iapply (Rounds.wp_wait_rest_token 𝒱₀ EX (Rd m) (c : Thread nD τ) none (κ := K (c, .inr (.inl t)))
      (wpE_waitDma2_eq 𝒱₀ (c : Thread nD τ) none Set.univ) (Set.mem_univ _) () (O := 0) (W := W) (R := 0) (m := 0) (T := ∅)
      (by rw [expect_send m c t htc, Nat.zero_add]; exact hn)) $$ [Hc HO Hat]
  · isplitr; · iapply (inv_at m K (c, .inr (.inl t))); iexact HR
    isplitl [Hc]; · rw [hn]; iexact Hc
    isplitl [HO]; · iexact HO
    isplitr; · rw [MayWait_zero]; iempintro
    iexact Hat
  iintro ⟨HO, Hat, -, Hpay⟩
  ihave Hp := (Entails.of_eq (rest_send m c t htc)) $$ Hpay
  iapply Hk
  isplitl [HO]; · iexists _; iexact HO
  isplitl [Hrest]; · iexact Hrest
  isplitl [Hat Hp]
  · isplitl [Hat] <;> iassumption
  iexact Hd

theorem sent_keep (c t : Dev nD) (htc : t = c) {S : Finset (Dev nD)} (hS : t ∈ S) : sendSt m c S ⊢ sendSt m c (S.erase t) := by
  unfold sendSt
  rw [bigSep_done hS, bigSep_take hS]
  unfold sendTodo sendDone
  rw [if_pos htc, if_pos htc]
  iintro ⟨HO, ⟨H, Hrest⟩, Hd⟩
  isplitl [HO]; · iexact HO
  isplitl [Hrest]; · iexact Hrest
  isplitl [H] <;> iassumption

/-! ## The same under the program's conditions -/

/-- A block just made is sent unless it is `c`'s own. -/
theorem step_send_if (c t : Dev nD) {S : Finset (Dev nD)} (hS : t ∈ S) {p : Prop} [Decidable p] (hp : p ↔ t ≠ c) {n : p → Dev nD} (hn : ∀ h, n h = t)
    {off : Fin 3 → ℕ} (h : off = ![t.val, 0, 0]) {inb : p → ∀ a, off a + S1x512x256.size a ≤ S8x512x256.size a} {off' : Fin 2 → ℕ} (h' : off' = ![512 * c.val, 0]) {inb' : p → ∀ a, off' a + S512x256.size a ≤ S4096x256.size a}
    {sS sR : p → DmaSem sig} (hsS : ∀ h, sS h = sendS t) (hsR : ∀ h, sR h = recvS c)
    {hsc : ∀ h, (oM.slice (Rect.unit (s := S4096x256) off' S512x256.size (inb' h)) (fun _ => rfl)).view.ref.isScScratch = false}
    {hsrc : ∀ h, ((yM.slice (Rect.unit (s := S8x512x256) off S1x512x256.size (inb h)) (fun _ => rfl)).squeeze S512x256 squeezes_S1x512x256_S512x256).view.WordExact}
    {hdst : ∀ h, (oM.slice (Rect.unit (s := S4096x256) off' S512x256.size (inb' h)) (fun _ => rfl)).view.WordExact}
    {hsem : ∀ h, DmaTarget.Typed .vmem (.dma (sR h)) (DmaTarget.remote (nD := nD) (p := (.tc : Proc τ)) (Dev.tc (n h) : Thread nD τ) (oM.slice (Rect.unit (s := S4096x256) off' S512x256.size (inb' h)) (fun _ => rfl)) (.dma (sS h)) (hsc h))}
    {α : Type} {Q : α → sProp 𝕄} {k : Prog (TpuEff nD τ sig (Elt F) Λ₀ .tc) α} :
    iprop(records m K ∗ blkMid m c t S) ⊢ iprop((blkSt m c (S.erase t) -∗ Runs c k Q)
      -∗ Runs c (if hh : p then .op (.enqueueDma ((yM.slice (Rect.unit (s := S8x512x256) off S1x512x256.size (inb hh)) (fun _ => rfl)).squeeze S512x256 squeezes_S1x512x256_S512x256)
          (.remote (Dev.tc (n hh) : Thread nD τ) (oM.slice (Rect.unit (s := S4096x256) off' S512x256.size (inb' hh)) (fun _ => rfl)) (.dma (sS hh)) (hsc hh)) (.dma (sR hh)) (hsrc hh) (hdst hh) (hsem hh))
            fun _ => k else k) Q) := by
  by_cases hh : p
  · rw [dif_pos hh]
    exact step_send m K c t (hp.mp hh) hS (hn hh) h h' (hsS hh) (hsR hh) (k := fun _ => k)
  · rw [dif_neg hh]
    iintro ⟨-, H⟩ Hk
    iapply Hk
    iapply (blk_keep m c t (not_not.mp fun hne => hh (hp.mpr hne)) hS); iexact H

/-- A block is waited for unless it is `c`'s own. -/
theorem step_recv_if (c s : Dev nD) {S : Finset (Dev nD)} (hS : s ∈ S) {p : Prop} [Decidable p] (hp : p ↔ s ≠ c) {sm : DmaSem sig} (hsm : sm = recvS s)
    {sp sp' : Space} {s₁ s₂ : Shape} {e₁ e₂ : EltTy} {srcw : Memref sig .tc sp s₁ e₁} {dstw : Memref sig .tc sp' s₂ e₂} (hn : dstw.view.dmaCredit = N)
    {hsrc : p → srcw.view.WordExact} {hdst : p → dstw.view.WordExact}
    {α : Type} {Q : α → sProp 𝕄} {k : Prog (TpuEff nD τ sig (Elt F) Λ₀ .tc) α} :
    iprop(records m K ∗ recvSt m c S) ⊢ iprop((recvSt m c (S.erase s) -∗ Runs c k Q)
      -∗ Runs c (if hh : p then .op (.waitDma2 sm srcw dstw (hsrc hh) (hdst hh)) fun _ => k else k) Q) := by
  by_cases hh : p
  · rw [dif_pos hh]
    exact step_recv m K c s (hp.mp hh) hS hsm hn (k := fun _ => k)
  · rw [dif_neg hh]
    iintro ⟨-, H⟩ Hk
    iapply Hk
    iapply (recv_keep m c s (not_not.mp fun hne => hh (hp.mpr hne)) hS); iexact H

/-- A transfer is waited for unless there was none. -/
theorem step_sent_if (c t : Dev nD) {S : Finset (Dev nD)} (hS : t ∈ S) {p : Prop} [Decidable p] (hp : p ↔ t ≠ c) {sm : DmaSem sig} (hsm : sm = sendS t)
    {sp sp' : Space} {s₁ s₂ : Shape} {e₁ e₂ : EltTy} {srcw : Memref sig .tc sp s₁ e₁} {dstw : Memref sig .tc sp' s₂ e₂} (hn : dstw.view.dmaCredit = N)
    {hsrc : p → srcw.view.WordExact} {hdst : p → dstw.view.WordExact}
    {α : Type} {Q : α → sProp 𝕄} {k : Prog (TpuEff nD τ sig (Elt F) Λ₀ .tc) α} :
    iprop(records m K ∗ sendSt m c S) ⊢ iprop((sendSt m c (S.erase t) -∗ Runs c k Q)
      -∗ Runs c (if hh : p then .op (.waitDma2 sm srcw dstw (hsrc hh) (hdst hh)) fun _ => k else k) Q) := by
  by_cases hh : p
  · rw [dif_pos hh]
    exact step_sent m K c t (hp.mp hh) hS hsm hn (k := fun _ => k)
  · rw [dif_neg hh]
    iintro ⟨-, H⟩ Hk
    iapply Hk
    iapply (sent_keep m c t (not_not.mp fun hne => hh (hp.mpr hne)) hS); iexact H

end Cert.KRun

end
-- ==== Proof.Parts.lean ====
/-
# The body, part by part

Each lemma runs one stretch of the body on device `c` from what it needs to what it leaves.
-/
module

public import proofs.«01_k».proof.Proof.Steps

@[expose] public section

noncomputable section

namespace Cert.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ)

/-! ## Which devices a device deals with, and when -/

/-- The device `i` places after `c`. -/
def nb (c : Dev nD) (i : ℕ) : Dev nD := ⟨(c.val + i) % 8, Nat.mod_lt _ (by decide)⟩
/-- The chunk device `c` takes at turn `j`; -/
def turn (c : Dev nD) (j : ℕ) : Fin 4 := ⟨(c.val / 2 + j + 1) % 4, Nat.mod_lt _ (by decide)⟩
/-- the device its left (`h = 0`) or right (`h = 1`) half is for. -/
def half (c : Dev nD) (j : ℕ) (h : Fin 2) : Dev nD :=
  ⟨2 * ((c.val / 2 + j + 1) % 4) + h.val, by have := Nat.mod_lt (c.val / 2 + j + 1) (show 0 < 4 by decide); have := h.isLt; show _ < 8; omega⟩

/-- The devices still to be signalled when the next is the `n`-th after `c`. -/
def sigLeft (c : Dev nD) : ℕ → Finset (Dev nD)
  | 0 => Finset.univ
  | n + 1 => (sigLeft c n).erase (nb c n)
/-- The blocks still to be made after `n` of them. -/
def blkLeft (c : Dev nD) : ℕ → Finset (Dev nD)
  | 0 => Finset.univ
  | n + 1 => (blkLeft c n).erase (half c (n / 2) (Fin.ofNat 2 n))

theorem nb_ne (c : Dev nD) : ∀ i : Fin 8, i ≠ 0 → nb c i.val ≠ c := by revert c; decide
theorem nb_mem (c : Dev nD) : ∀ i : Fin 8, nb c i.val ∈ sigLeft c i.val := by revert c; decide
theorem sigLeft_one (c : Dev nD) : sigLeft c 1 = Finset.univ.erase c := by revert c; decide
theorem sigLeft_eight (c : Dev nD) : sigLeft c 8 = ∅ := by revert c; decide
theorem half_mem (c : Dev nD) : ∀ i : Fin 8, half c (i.val / 2) (Fin.ofNat 2 i.val) ∈ blkLeft c i.val := by revert c; decide
theorem blkLeft_eight (c : Dev nD) : blkLeft c 8 = ∅ := by revert c; decide

/-- The device's number as the program computes it. -/
abbrev num (c : Dev nD) : BitVec 32 := Scalar.remsi (Scalar.divsi (Dev.word c) 1#32) 8#32

theorem ne_iff (c : Dev nD) (s : Dev nD) :
    (Scalar.cmpi .ne (Scalar.extui (Scalar.cmpi .ne (num c) (BitVec.ofNat 32 s.val))) 0#32 = 1#1) = (s ≠ c) := by
  revert c s; decide

/-- The devices from the `n`-th on. -/
def upFrom (n : ℕ) : Finset (Dev nD) := Finset.univ.filter fun d => n ≤ d.val

theorem upFrom_zero : upFrom 0 = Finset.univ := by decide
theorem upFrom_eight : upFrom 8 = ∅ := by decide
theorem mem_upFrom (s : Dev nD) : s ∈ upFrom s.val := by simp [upFrom]
theorem upFrom_erase (s : Dev nD) : (upFrom s.val).erase s = upFrom (s.val + 1) := by revert s; decide

/-- The waits for the blocks from the others, in order; -/
theorem wait_recv (c s : Dev nD) {n : ℕ} (hs : s.val = n) {p : Prop} [Decidable p] (hp : p = (s ≠ c)) {sm : DmaSem sig} (hsm : sm = recvS s)
    {sp sp' : Space} {s₁ s₂ : Shape} {e₁ e₂ : EltTy} {srcw : Memref sig .tc sp s₁ e₁} {dstw : Memref sig .tc sp' s₂ e₂} (hn : dstw.view.dmaCredit = N)
    {hsrc : p → srcw.view.WordExact} {hdst : p → dstw.view.WordExact}
    {α : Type} {Q : α → sProp 𝕄} {k : Prog (TpuEff nD τ sig (Elt F) Λ₀ .tc) α} :
    iprop(records m K ∗ recvSt m c (upFrom n)) ⊢ iprop((recvSt m c (upFrom (n + 1)) -∗ Runs c k Q)
      -∗ Runs c (if hh : p then .op (.waitDma2 sm srcw dstw (hsrc hh) (hdst hh)) fun _ => k else k) Q) := by
  subst hs
  rw [← upFrom_erase]
  exact step_recv_if m K c s (mem_upFrom s) (iff_of_eq hp) hsm hn

/-- and for its own transfers. -/
theorem wait_sent (c t : Dev nD) {n : ℕ} (ht : t.val = n) {p : Prop} [Decidable p] (hp : p = (t ≠ c)) {sm : DmaSem sig} (hsm : sm = sendS t)
    {sp sp' : Space} {s₁ s₂ : Shape} {e₁ e₂ : EltTy} {srcw : Memref sig .tc sp s₁ e₁} {dstw : Memref sig .tc sp' s₂ e₂} (hn : dstw.view.dmaCredit = N)
    {hsrc : p → srcw.view.WordExact} {hdst : p → dstw.view.WordExact}
    {α : Type} {Q : α → sProp 𝕄} {k : Prog (TpuEff nD τ sig (Elt F) Λ₀ .tc) α} :
    iprop(records m K ∗ sendSt m c (upFrom n)) ⊢ iprop((sendSt m c (upFrom (n + 1)) -∗ Runs c k Q)
      -∗ Runs c (if hh : p then .op (.waitDma2 sm srcw dstw (hsrc hh) (hdst hh)) fun _ => k else k) Q) := by
  subst ht
  rw [← upFrom_erase]
  exact step_sent_if m K c t (mem_upFrom t) (iff_of_eq hp) hsm hn

/-- The next device is signalled. -/
theorem signal_next (c : Dev nD) (i : Fin 8) (hi : i ≠ 0) {n : Dev nD} (hn : n = nb c i.val) {T : Finset (Dev nD)} {k' : ℕ} (hk' : 1 = k')
    {α : Type} {Q : α → sProp 𝕄} {k : PUnit → Prog (TpuEff nD τ sig (Elt F) Λ₀ .tc) α} :
    iprop(records m K ∗ sigSt c (sigLeft c i.val) T)
      ⊢ iprop((sigSt c (sigLeft c (i.val + 1)) T -∗ Runs c (k ⟨⟩) Q) -∗ Runs c (.op (.semSignal (n : Thread nD τ) barS k') k) Q) :=
  step_signal m K c (nb c i.val) (nb_ne c i hi) hn (nb_mem c i) hk'

/-- A slot that holds chunk `q`, and what the next copy into it needs; -/
def slotHas (c : Dev nD) (b : Fin 2) (q : Fin 4) : sProp 𝕄 :=
  iprop(wfPts c b (slotAt m c q) ∗ wPts m c b ∗ semVal ((c : Thread nD τ), .dma (loadS b)) 0)
/-- the same whatever it holds. -/
def slotFree (c : Dev nD) (b : Fin 2) : sProp 𝕄 :=
  iprop((∃ f, wfPts (F := F) c b f) ∗ wPts m c b ∗ semVal ((c : Thread nD τ), .dma (loadS b)) 0)
theorem slot_free (c : Dev nD) (b : Fin 2) (q : Fin 4) : slotHas m c b q ⊢ slotFree m c b := by
  unfold slotHas slotFree
  iintro ⟨Hf, H⟩
  isplitl [Hf]; · iexists _; iexact Hf
  iexact H

/-- The copy of the chunk of turn `j` is started; -/
theorem load_chunk (c : Dev nD) (b : Fin 2) (j : Fin 4) {off : Fin 3 → ℕ} (h : off = ![b.val, 0, 0]) {inb hr}
    {off' : Fin 2 → ℕ} (h' : off' = ![0, 512 * ((c.val / 2 + j.val + 1) % 4)]) {inb' hr'} {sm : DmaSem sig} (hsm : sm = loadS b)
    {hsrc : (wM.slice (Rect.unit (s := S4096x2048) off' S4096x512.size inb') hr').view.WordExact}
    {hdst : ((wfM.slice (Rect.unit (s := S2x4096x512) off S1x4096x512.size inb) hr).squeeze S4096x512 squeezes_S1x4096x512_S4096x512).view.WordExact}
    {hsem : DmaTarget.Typed .hbm (.dma sm) (DmaTarget.here (nD := nD) (p := (.tc : Proc τ))
      ((wfM.slice (Rect.unit (s := S2x4096x512) off S1x4096x512.size inb) hr).squeeze S4096x512 squeezes_S1x4096x512_S4096x512))}
    {α : Type} {Q : α → sProp 𝕄} {k : PUnit → Prog (TpuEff nD τ sig (Elt F) Λ₀ .tc) α} :
    slotFree m c b
      ⊢ iprop((wFlight m c b (turn c j.val) -∗ Runs c (k ⟨⟩) Q)
          -∗ Runs c (.op (.enqueueDma (wM.slice (Rect.unit (s := S4096x2048) off' S4096x512.size inb') hr')
              (.here ((wfM.slice (Rect.unit (s := S2x4096x512) off S1x4096x512.size inb) hr).squeeze S4096x512 squeezes_S1x4096x512_S4096x512))
              (.dma sm) hsrc hdst hsem) k) Q) := by
  unfold slotFree
  iintro ⟨Hf, Hw, Hv⟩
  iapply (step_wload m c b (turn c j.val) h h' hsm)
  isplitl [Hw]; · iexact Hw
  isplitl [Hf] <;> iassumption

/-- it is waited for, before any block is made; -/
theorem await_first (c : Dev nD) (b : Fin 2) (q : Fin 4) {sp' : Space} {s' : Shape} {e' : EltTy} {srcw : Memref sig .tc sp' s' e'}
    {dstw : Memref sig .tc .vmem S4096x512 .f32} (hn : dstw.view.dmaCredit = (cc0_scratch1 : Ref sig .tc).dmaCredit S4096x512 .f32)
    {sm : DmaSem sig} (hsm : sm = loadS b)
    {hsrc : srcw.view.WordExact} {hdst : dstw.view.WordExact} {S T : Finset (Dev nD)}
    {α : Type} {Q : α → sProp 𝕄} {k : PUnit → Prog (TpuEff nD τ sig (Elt F) Λ₀ .tc) α} :
    iprop(levAts L lv ∗ wFlight m c b q ∗ ow c S T)
      ⊢ iprop((iprop(slotHas m c b q ∗ ow c S T) -∗ Runs c (k ⟨⟩) Q)
          -∗ Runs c (.op (.waitDma2 sm srcw dstw hsrc hdst) k) Q) := by
  unfold slotHas
  iintro ⟨#HL, HF, HO⟩ Hk
  iapply (step_wwait m c b q hn hsm (S := S) (T := T)) $$ [HF HO]
  · isplitl [HF]; · iexact HF
    isplitl [HO]; · iexact HO
    iexact HL
  iintro ⟨Hf, Hw, Hv, HO⟩
  iapply Hk
  isplitr [HO]
  · isplitl [Hf]; · iexact Hf
    isplitl [Hw] <;> iassumption
  iexact HO

/-- and between the making of blocks. -/
theorem await_chunk (c : Dev nD) (b : Fin 2) (q : Fin 4) {sp' : Space} {s' : Shape} {e' : EltTy} {srcw : Memref sig .tc sp' s' e'}
    {dstw : Memref sig .tc .vmem S4096x512 .f32} (hn : dstw.view.dmaCredit = (cc0_scratch1 : Ref sig .tc).dmaCredit S4096x512 .f32)
    {sm : DmaSem sig} (hsm : sm = loadS b)
    {hsrc : srcw.view.WordExact} {hdst : dstw.view.WordExact} {S : Finset (Dev nD)}
    {α : Type} {Q : α → sProp 𝕄} {k : PUnit → Prog (TpuEff nD τ sig (Elt F) Λ₀ .tc) α} :
    iprop(levAts L lv ∗ wFlight m c b q ∗ blkSt m c S)
      ⊢ iprop((iprop(slotHas m c b q ∗ blkSt m c S) -∗ Runs c (k ⟨⟩) Q)
          -∗ Runs c (.op (.waitDma2 sm srcw dstw hsrc hdst) k) Q) := by
  unfold blkSt
  iintro ⟨#HL, HF, HO, HB⟩ Hk
  iapply (await_first m c b q hn hsm (S := ∅) (T := S.erase c)) $$ [HF HO]
  · isplitr; · iexact HL
    isplitl [HF] <;> iassumption
  iintro ⟨Hs, HO⟩
  iapply Hk
  isplitl [Hs]; · iexact Hs
  isplitl [HO] <;> iassumption

/-- A chunk is read. -/
theorem read_chunk (c : Dev nD) (b : Fin 2) (q : Fin 4) {off : Fin 3 → ℕ} (h : off = ![b.val, 0, 0]) {inb hl}
    {α : Type} {Q : α → sProp 𝕄} {k : (S1x4096x512.Idx → Elt F .f32) → Prog (TpuEff nD τ sig (Elt F) Λ₀ .tc) α} :
    slotHas m c b q
      ⊢ iprop((slotHas m c b q -∗ Runs c (k (chunk m c q)) Q)
          -∗ Runs c (.op (.load wfM (Rect.unit (s := S2x4096x512) off S1x4096x512.size inb).toLoadRect hl) k) Q) := by
  unfold slotHas
  iintro ⟨Hf, H⟩ Hk
  iapply (step_wread m c b q h) $$ Hf
  iintro Hf
  iapply Hk
  isplitl [Hf] <;> iassumption

/-- The next block is made, and sent unless it is `c`'s own. -/
theorem make_block (c : Dev nD) (i : Fin 8) {t : Dev nD} (ht : t = half c (i.val / 2) (Fin.ofNat 2 i.val))
    {off₀ : Fin 3 → ℕ} (h₀ : off₀ = ![t.val, 0, 0]) {inb₀ : ∀ a, off₀ a + S1x512x256.size a ≤ S8x512x256.size a} {hl}
    {v : S1x512x256.Idx → Elt F .bf16} (hv : v = blockVal m c t) {hx hm}
    {p : Prop} [Decidable p] (hp : p = (t ≠ c)) {n : p → Dev nD} (hn : ∀ h, n h = t)
    {off : Fin 3 → ℕ} (h : off = ![t.val, 0, 0]) {inb : p → ∀ a, off a + S1x512x256.size a ≤ S8x512x256.size a}
    {off' : Fin 2 → ℕ} (h' : off' = ![512 * c.val, 0]) {inb' : p → ∀ a, off' a + S512x256.size a ≤ S4096x256.size a}
    {sS sR : p → DmaSem sig} (hsS : ∀ h, sS h = sendS t) (hsR : ∀ h, sR h = recvS c)
    {hsc : ∀ h, (oM.slice (Rect.unit (s := S4096x256) off' S512x256.size (inb' h)) (fun _ => rfl)).view.ref.isScScratch = false}
    {hsrc : ∀ h, ((yM.slice (Rect.unit (s := S8x512x256) off S1x512x256.size (inb h)) (fun _ => rfl)).squeeze S512x256 squeezes_S1x512x256_S512x256).view.WordExact}
    {hdst : ∀ h, (oM.slice (Rect.unit (s := S4096x256) off' S512x256.size (inb' h)) (fun _ => rfl)).view.WordExact}
    {hsem : ∀ h, DmaTarget.Typed .vmem (.dma (sR h)) (DmaTarget.remote (nD := nD) (p := (.tc : Proc τ)) (Dev.tc (n h) : Thread nD τ) (oM.slice (Rect.unit (s := S4096x256) off' S512x256.size (inb' h)) (fun _ => rfl)) (.dma (sS h)) (hsc h))}
    {α : Type} {Q : α → sProp 𝕄} {k : Prog (TpuEff nD τ sig (Elt F) Λ₀ .tc) α} :
    iprop(records m K ∗ blkSt m c (blkLeft c i.val)) ⊢ iprop((blkSt m c (blkLeft c (i.val + 1)) -∗ Runs c k Q)
      -∗ Runs c (.op (.load yM (Rect.unit (s := S8x512x256) off₀ S1x512x256.size inb₀).toLoadRect hl)
          fun _ => .op (.store yM (Rect.unit (s := S8x512x256) off₀ S1x512x256.size inb₀) v Finset.univ hx hm)
          fun _ => if hh : p then .op (.enqueueDma ((yM.slice (Rect.unit (s := S8x512x256) off S1x512x256.size (inb hh)) (fun _ => rfl)).squeeze S512x256 squeezes_S1x512x256_S512x256)
          (.remote (Dev.tc (n hh) : Thread nD τ) (oM.slice (Rect.unit (s := S4096x256) off' S512x256.size (inb' hh)) (fun _ => rfl)) (.dma (sS hh)) (hsc hh)) (.dma (sR hh)) (hsrc hh) (hdst hh) (hsem hh))
            fun _ => k else k) Q) := by
  have hmem : t ∈ blkLeft c i.val := ht ▸ half_mem c i
  have hstep : blkLeft c (i.val + 1) = (blkLeft c i.val).erase t := by rw [ht]; rfl
  rw [hstep]
  iintro ⟨#HR, H⟩ Hk
  iapply (step_store m c t hmem h₀ hv) $$ H
  iintro H
  iapply (step_send_if m K c t hmem (iff_of_eq hp) hn h h' hsS hsR) $$ [H]
  · isplitr; · iexact HR
    iexact H
  iexact Hk

/-! Each block is sent exactly if it is for another device. -/

theorem cond1_eq (c : Dev nD) : (k0_cond1 c = 1#1) = (half c 0 0 ≠ c) := by revert c; decide +kernel
theorem cond2_eq (c : Dev nD) : (k0_cond2 c = 1#1) = (half c 0 1 ≠ c) := by revert c; decide +kernel
theorem cond3_eq (c : Dev nD) : (k0_cond3 c = 1#1) = (half c 1 0 ≠ c) := by revert c; decide +kernel
theorem cond4_eq (c : Dev nD) : (k0_cond4 c = 1#1) = (half c 1 1 ≠ c) := by revert c; decide +kernel
theorem cond5_eq (c : Dev nD) : (k0_cond5 c = 1#1) = (half c 2 0 ≠ c) := by revert c; decide +kernel
theorem cond6_eq (c : Dev nD) : (k0_cond6 c = 1#1) = (half c 2 1 ≠ c) := by revert c; decide +kernel
theorem cond7_eq (c : Dev nD) : (k0_cond7 c = 1#1) = (half c 3 0 ≠ c) := by revert c; decide +kernel
theorem cond8_eq (c : Dev nD) : (k0_cond8 c = 1#1) = (half c 3 1 ≠ c) := by revert c; decide +kernel

theorem chunkOf_half (c : Dev nD) (j : Fin 4) (h : Fin 2) : chunkOf (half c j.val h) = turn c j.val := by revert c j h; decide
/-- A left half; -/
theorem val_left (c : Dev nD) (j : Fin 4) : k0_pay3 (k0_pay1 (xAt m c)) (chunk m c (turn c j.val)) = blockVal m c (half c j.val 0) := by
  unfold blockVal
  rw [if_pos (by revert c j; decide), chunkOf_half]
/-- a right half. -/
theorem val_right (c : Dev nD) (j : Fin 4) : k0_pay4 (prod m c (turn c j.val)) = blockVal m c (half c j.val 1) := by
  unfold blockVal
  rw [if_neg (by revert c j; decide), chunkOf_half]

/-! ## The parts -/

theorem runs_ret (c : Dev nD) {α : Type} {a : α} {Q : α → sProp 𝕄} : Q a ⊢ Runs (F := F) c (.ret a) Q := by
  unfold Runs
  rw [wp_ret]
  iintro H
  imodintro
  iexact H

theorem part1 (c : Dev nD) {Q : (Σ' (_ : Dev nD) (_ : BitVec 32) (_ : BitVec 32) (_ : Sems sig S_), BitVec 32) → sProp 𝕄} :
    iprop(records m K ∗ sigSt (F := F) c (sigLeft c 1) (Finset.univ.erase c))
      ⊢ iprop((sigSt (F := F) c (sigLeft c 6) (Finset.univ.erase c) -∗ Q ⟨c, num c, Scalar.divsi (num c) 2#32, SemArray.scalar (sig.barrier 0 rfl), 6#32⟩)
        -∗ Runs c (k0_part1 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6) Q) := by
  simp only [k0_part1_eq_skeleton]; unfold k0_part1_skel
  simp only [semSignalWord, semWaitWord, Prog.lift, Prog.bind_op, Prog.bind_ret, Prog.pure_eq_ret, wp_deviceId]
  iintro ⟨#HR, H⟩ Hk
  iapply (signal_next m K c 1 (by decide) (n := ⟨k0_dev1 c, k0_dev1_lt c⟩) (Fin.ext (k0_dev1_eq c)) rfl) $$ [H]
  · isplitr; · iexact HR
    iexact H
  iintro H
  iapply (signal_next m K c 2 (by decide) (n := ⟨k0_dev2 c, k0_dev2_lt c⟩) (Fin.ext (k0_dev2_eq c)) rfl) $$ [H]
  · isplitr; · iexact HR
    iexact H
  iintro H
  iapply (signal_next m K c 3 (by decide) (n := ⟨k0_dev3 c, k0_dev3_lt c⟩) (Fin.ext (k0_dev3_eq c)) rfl) $$ [H]
  · isplitr; · iexact HR
    iexact H
  iintro H
  iapply (signal_next m K c 4 (by decide) (n := ⟨k0_dev4 c, k0_dev4_lt c⟩) (Fin.ext (k0_dev4_eq c)) rfl) $$ [H]
  · isplitr; · iexact HR
    iexact H
  iintro H
  iapply (signal_next m K c 5 (by decide) (n := ⟨k0_dev5 c, k0_dev5_lt c⟩) (Fin.ext (k0_dev5_eq c)) rfl) $$ [H]
  · isplitr; · iexact HR
    iexact H
  iintro H
  iapply runs_ret
  iapply Hk
  iexact H

theorem part2 (c : Dev nD) (c6 : BitVec 32) {T : Finset (Dev nD)} {Q : FVec F S512x4096 .bf16 → sProp 𝕄} :
    iprop(records m K ∗ levAts L lv ∗ sigSt (F := F) c (sigLeft c 6) T ∗ (xPts m c ∗ (∃ f, xfPts c f) ∗ semVal ((c : Thread nD τ), .dma xloadS) 0) ∗ slotFree m c 0)
      ⊢ iprop((iprop(ow c ∅ T ∗ ((xfPts c (xAt m c) ∗ xPts m c) ∗ semVal ((c : Thread nD τ), .dma xloadS) 0) ∗ wFlight m c 0 (turn c 0)) -∗ Q (k0_pay1 (xAt m c)))
        -∗ Runs c (k0_part2 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (num c) (Scalar.divsi (num c) 2#32) (SemArray.scalar (sig.barrier 0 rfl)) c6) Q) := by
  simp only [k0_part2_eq_skeleton]; unfold k0_part2_skel
  simp only [semSignalWord, semWaitWord, Prog.lift, Prog.bind_op, Prog.bind_ret, Prog.pure_eq_ret, wp_deviceId]
  iintro ⟨#HR, #HL, H, Hx, Hw⟩ Hk
  iapply (signal_next m K c 6 (by decide) (n := ⟨k0_dev6 c, k0_dev6_lt c⟩) (Fin.ext (k0_dev6_eq c)) rfl) $$ [H]
  · isplitr; · iexact HR
    iexact H
  iintro H
  iapply (signal_next m K c 7 (by decide) (n := ⟨k0_dev7 c, k0_dev7_lt c⟩) (Fin.ext (k0_dev7_eq c)) rfl) $$ [H]
  · isplitr; · iexact HR
    iexact H
  iintro H
  ihave H' := (Entails.of_eq (by unfold sigSt; rw [show sigLeft c (((7 : Fin 8) : ℕ) + 1) = ∅ from sigLeft_eight c])) $$ H
  icases H' with ⟨HO, -⟩
  iapply (step_xload m c) $$ Hx
  iintro Hx
  iapply (load_chunk m c 0 0 rfl (k0_off1_eq c 0) rfl) $$ Hw
  iintro Hw
  iapply (step_xwait m c (S := ∅) (T := T)) $$ [Hx HO]
  · isplitl [Hx]; · iexact Hx
    isplitl [HO]; · iexact HO
    iexact HL
  iintro ⟨⟨Hxf, Hx⟩, Hv, HO⟩
  iapply (step_xread m c) $$ Hxf
  iintro Hxf
  iapply runs_ret
  iapply Hk
  isplitl [HO]; · iexact HO
  isplitr [Hw]
  · isplitl [Hxf Hx]
    · isplitl [Hxf] <;> iassumption
    iexact Hv
  iexact Hw

theorem part3 (c : Dev nD) {Q : (Σ' (_ : FVec F S512x512 .bf16), BitVec 32) → sProp 𝕄} :
    iprop(records m K ∗ levAts L lv ∗ wFlight m c 0 (turn c 0) ∗ slotFree m c 1 ∗ ow c ∅ (Finset.univ.erase c) ∗ cred (tallyAt (barCell c) () 7) ∗ atPos EX (barCell c) 0 ∅ 0
      ∗ (iprop(ow c ∅ (Finset.univ.erase c) ∗ bigSep (Finset.univ.erase c) fun d => iprop(∃ f, outPts (F := F) d c f)) -∗ blkSt m c (blkLeft c 0)))
      ⊢ iprop((iprop(slotHas m c 0 (turn c 0) ∗ wFlight m c 1 (turn c 1) ∗ atPos EX (barCell c) 1 ∅ 0 ∗ blkSt m c (blkLeft c 1)) -∗ Q ⟨k0_pay2 (k0_pay1 (xAt m c)) (chunk m c (turn c 0)), 1#32⟩)
        -∗ Runs c (k0_part3 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (num c) (Scalar.divsi (num c) 2#32) (SemArray.scalar (sig.barrier 0 rfl)) (k0_pay1 (xAt m c))) Q) := by
  simp only [k0_part3_eq_skeleton]; unfold k0_part3_skel
  simp only [semSignalWord, semWaitWord, Prog.lift, Prog.bind_op, Prog.bind_ret, Prog.pure_eq_ret, wp_deviceId]
  iintro ⟨#HR, #HL, HF, Hs1, HO, Hc, Hat, Hnext⟩ Hk
  iapply (await_first m c 0 (turn c 0) rfl rfl (S := ∅) (T := Finset.univ.erase c)) $$ [HF HO]
  · isplitr; · iexact HL
    isplitl [HF]; · iexact HF
    iexact HO
  iintro ⟨Hs, HO⟩
  iapply (load_chunk m c 1 1 rfl (k0_off1_eq c 1) rfl) $$ Hs1
  iintro HF
  iapply (read_chunk m c 0 (turn c 0) rfl) $$ Hs
  iintro Hs
  iapply (step_barrier m K c (Finset.univ.erase c) rfl) $$ [Hc HO Hat]
  · isplitr; · iexact HR
    isplitl [Hc]; · iexact Hc
    isplitl [HO]; · iexact HO
    isplitr; · iexact HL
    iexact Hat
  iintro ⟨HO, Hat, Hp⟩
  ihave H := Hnext $$ [HO Hp]
  · isplitl [HO] <;> iassumption
  iapply (make_block m K c 0 (t := half c 0 0) rfl (off₀ := k0_off2 c 0#32 0#32) (k0_off2_eq c 0 0) (v := k0_pay3 (k0_pay1 (xAt m c)) (chunk m c (turn c 0))) (val_left m c 0)
      (p := k0_cond1 c = 1#1) (cond1_eq c) (n := fun h => ⟨k0_dev8 c, k0_dev8_lt c h⟩) (fun _ => Fin.ext (k0_dev8_eq c))
      (off := k0_off6 c) (k0_off6_eq c) (off' := k0_off5 c) (k0_off5_eq c)
      (fun h => sendS_of (half c 0 0) (k0_off3_eq c) (k0_off3_inb c h)) (fun h => recvS_of c (k0_off4_eq c) (k0_off4_inb c h))) $$ [H]
  · isplitr; · iexact HR
    iexact H
  iintro H
  iapply runs_ret
  iapply Hk
  isplitl [Hs]; · iexact Hs
  isplitl [HF]; · iexact HF
  isplitl [Hat]; · iexact Hat
  iexact H

theorem part4 (c : Dev nD) (c1 : BitVec 32) {Q : PUnit → sProp 𝕄} :
    iprop(records m K ∗ levAts L lv ∗ slotFree m c 0 ∗ wFlight m c 1 (turn c 1) ∗ blkSt m c (blkLeft c 1))
      ⊢ iprop((iprop(wFlight m c 0 (turn c 2) ∗ slotHas m c 1 (turn c 1) ∗ blkSt m c (blkLeft c 2)) -∗ Q ⟨⟩)
        -∗ Runs c (k0_part4 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (num c) (Scalar.divsi (num c) 2#32) (k0_pay2 (k0_pay1 (xAt m c)) (chunk m c (turn c 0))) c1) Q) := by
  simp only [k0_part4_eq_skeleton]; unfold k0_part4_skel
  simp only [semSignalWord, semWaitWord, Prog.lift, Prog.bind_op, Prog.bind_ret, Prog.pure_eq_ret, wp_deviceId]
  iintro ⟨#HR, #HL, Hs0, HF, H⟩ Hk
  iapply (make_block m K c 1 (t := half c 0 1) rfl (off₀ := k0_off2 c 0#32 1#32) (k0_off2_eq c 0 1) (v := k0_pay4 (k0_pay2 (k0_pay1 (xAt m c)) (chunk m c (turn c 0)))) (val_right m c 0)
      (p := k0_cond2 c = 1#1) (cond2_eq c) (n := fun h => ⟨k0_dev9 c, k0_dev9_lt c h⟩) (fun _ => Fin.ext (k0_dev9_eq c))
      (off := k0_off10 c) (k0_off10_eq c) (off' := k0_off9 c) (k0_off9_eq c)
      (fun h => sendS_of (half c 0 1) (k0_off7_eq c) (k0_off7_inb c h)) (fun h => recvS_of c (k0_off8_eq c) (k0_off8_inb c h))) $$ [H]
  · isplitr; · iexact HR
    iexact H
  iintro H
  iapply (await_chunk m c 1 (turn c 1) rfl rfl) $$ [HF H]
  · isplitr; · iexact HL
    isplitl [HF]; · iexact HF
    iexact H
  iintro ⟨Hs, H⟩
  iapply (load_chunk m c 0 2 rfl (k0_off1_eq c 2) rfl) $$ Hs0
  iintro HF
  iapply runs_ret
  iapply Hk
  isplitl [HF]; · iexact HF
  isplitl [Hs]; · iexact Hs
  iexact H

theorem part5 (c : Dev nD) {Q : (Σ' (_ : BitVec 32), BitVec 32) → sProp 𝕄} :
    iprop(records m K ∗ slotHas m c 1 (turn c 1) ∗ blkSt m c (blkLeft c 2))
      ⊢ iprop((iprop(slotHas m c 1 (turn c 1) ∗ blkSt m c (blkLeft c 4)) -∗ Q ⟨Scalar.addi (Scalar.divsi (num c) 2#32) 1#32, 2#32⟩)
        -∗ Runs c (k0_part5 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (num c) (Scalar.divsi (num c) 2#32) (k0_pay1 (xAt m c))) Q) := by
  simp only [k0_part5_eq_skeleton]; unfold k0_part5_skel
  simp only [semSignalWord, semWaitWord, Prog.lift, Prog.bind_op, Prog.bind_ret, Prog.pure_eq_ret, wp_deviceId]
  iintro ⟨#HR, Hs, H⟩ Hk
  iapply (read_chunk m c 1 (turn c 1) rfl) $$ Hs
  iintro Hs
  iapply (make_block m K c 2 (t := half c 1 0) rfl (off₀ := k0_off2 c 1#32 0#32) (k0_off2_eq c 1 0) (v := k0_pay6 (k0_pay1 (xAt m c)) (chunk m c (turn c 1))) (val_left m c 1)
      (p := k0_cond3 c = 1#1) (cond3_eq c) (n := fun h => ⟨k0_dev10 c, k0_dev10_lt c h⟩) (fun _ => Fin.ext (k0_dev10_eq c))
      (off := k0_off14 c) (k0_off14_eq c) (off' := k0_off13 c) (k0_off13_eq c)
      (fun h => sendS_of (half c 1 0) (k0_off11_eq c) (k0_off11_inb c h)) (fun h => recvS_of c (k0_off12_eq c) (k0_off12_inb c h))) $$ [H]
  · isplitr; · iexact HR
    iexact H
  iintro H
  iapply (make_block m K c 3 (t := half c 1 1) rfl (off₀ := k0_off2 c 1#32 1#32) (k0_off2_eq c 1 1) (v := k0_pay7 (k0_pay1 (xAt m c)) (chunk m c (turn c 1))) (val_right m c 1)
      (p := k0_cond4 c = 1#1) (cond4_eq c) (n := fun h => ⟨k0_dev11 c, k0_dev11_lt c h⟩) (fun _ => Fin.ext (k0_dev11_eq c))
      (off := k0_off18 c) (k0_off18_eq c) (off' := k0_off17 c) (k0_off17_eq c)
      (fun h => sendS_of (half c 1 1) (k0_off15_eq c) (k0_off15_inb c h)) (fun h => recvS_of c (k0_off16_eq c) (k0_off16_inb c h))) $$ [H]
  · isplitr; · iexact HR
    iexact H
  iintro H
  iapply runs_ret
  iapply Hk
  isplitl [Hs]; · iexact Hs
  iexact H

theorem part6 (c : Dev nD) (v c2 : BitVec 32) {S : Finset (Dev nD)} {Q : (Σ' (_ : FVec F S512x512 .bf16) (_ : BitVec 32), FVec F S512x256 .bf16) → sProp 𝕄} :
    iprop(levAts L lv ∗ wFlight m c 0 (turn c 2) ∗ slotFree m c 1 ∗ blkSt m c S)
      ⊢ iprop((iprop(slotHas m c 0 (turn c 2) ∗ wFlight m c 1 (turn c 3) ∗ blkSt m c S) -∗ Q ⟨k0_pay8 (k0_pay1 (xAt m c)) (chunk m c (turn c 2)), Scalar.addi (Scalar.muli 2#32 (Scalar.remsi (Scalar.addi (Scalar.addi (Scalar.divsi (num c) 2#32) 1#32) 2#32) 4#32)) 0#32, k0_pay9 (k0_pay1 (xAt m c)) (chunk m c (turn c 2))⟩)
        -∗ Runs c (k0_part6 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (Scalar.divsi (num c) 2#32) (k0_pay1 (xAt m c)) v c2) Q) := by
  simp only [k0_part6_eq_skeleton]; unfold k0_part6_skel
  simp only [semSignalWord, semWaitWord, Prog.lift, Prog.bind_op, Prog.bind_ret, Prog.pure_eq_ret, wp_deviceId]
  iintro ⟨#HL, HF, Hs1, H⟩ Hk
  iapply (await_chunk m c 0 (turn c 2) rfl rfl) $$ [HF H]
  · isplitr; · iexact HL
    isplitl [HF]; · iexact HF
    iexact H
  iintro ⟨Hs, H⟩
  iapply (load_chunk m c 1 3 rfl (k0_off1_eq c 3) rfl) $$ Hs1
  iintro HF
  iapply (read_chunk m c 0 (turn c 2) rfl) $$ Hs
  iintro Hs
  iapply runs_ret
  iapply Hk
  isplitl [Hs]; · iexact Hs
  isplitl [HF]; · iexact HF
  iexact H

theorem part7 (c : Dev nD) (v : BitVec 32) {Q : (Σ' (_ : FVec F S512x512 .f32), FVec F S512x512 .f32) → sProp 𝕄} :
    iprop(records m K ∗ levAts L lv ∗ wFlight m c 1 (turn c 3) ∗ blkSt m c (blkLeft c 4))
      ⊢ iprop((iprop(slotHas m c 1 (turn c 3) ∗ blkSt m c (blkLeft c 6)) -∗ Q ⟨k0_pay12 (k0_pay1 (xAt m c)) (chunk m c (turn c 3)), k0_pay13 (k0_pay1 (xAt m c)) (chunk m c (turn c 3))⟩)
        -∗ Runs c (k0_part7 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (num c) (Scalar.divsi (num c) 2#32) (k0_pay1 (xAt m c)) (k0_pay8 (k0_pay1 (xAt m c)) (chunk m c (turn c 2))) v (k0_pay9 (k0_pay1 (xAt m c)) (chunk m c (turn c 2)))) Q) := by
  simp only [k0_part7_eq_skeleton]; unfold k0_part7_skel
  simp only [semSignalWord, semWaitWord, Prog.lift, Prog.bind_op, Prog.bind_ret, Prog.pure_eq_ret, wp_deviceId]
  iintro ⟨#HR, #HL, HF, H⟩ Hk
  iapply (make_block m K c 4 (t := half c 2 0) rfl (off₀ := k0_off2 c 2#32 0#32) (k0_off2_eq c 2 0) (v := k0_pay10 (k0_pay9 (k0_pay1 (xAt m c)) (chunk m c (turn c 2)))) (val_left m c 2)
      (p := k0_cond5 c = 1#1) (cond5_eq c) (n := fun h => ⟨k0_dev12 c, k0_dev12_lt c h⟩) (fun _ => Fin.ext (k0_dev12_eq c))
      (off := k0_off22 c) (k0_off22_eq c) (off' := k0_off21 c) (k0_off21_eq c)
      (fun h => sendS_of (half c 2 0) (k0_off19_eq c) (k0_off19_inb c h)) (fun h => recvS_of c (k0_off20_eq c) (k0_off20_inb c h))) $$ [H]
  · isplitr; · iexact HR
    iexact H
  iintro H
  iapply (make_block m K c 5 (t := half c 2 1) rfl (off₀ := k0_off2 c 2#32 1#32) (k0_off2_eq c 2 1) (v := k0_pay11 (k0_pay8 (k0_pay1 (xAt m c)) (chunk m c (turn c 2)))) (val_right m c 2)
      (p := k0_cond6 c = 1#1) (cond6_eq c) (n := fun h => ⟨k0_dev13 c, k0_dev13_lt c h⟩) (fun _ => Fin.ext (k0_dev13_eq c))
      (off := k0_off26 c) (k0_off26_eq c) (off' := k0_off25 c) (k0_off25_eq c)
      (fun h => sendS_of (half c 2 1) (k0_off23_eq c) (k0_off23_inb c h)) (fun h => recvS_of c (k0_off24_eq c) (k0_off24_inb c h))) $$ [H]
  · isplitr; · iexact HR
    iexact H
  iintro H
  iapply (await_chunk m c 1 (turn c 3) rfl rfl) $$ [HF H]
  · isplitr; · iexact HL
    isplitl [HF]; · iexact HF
    iexact H
  iintro ⟨Hs, H⟩
  iapply (read_chunk m c 1 (turn c 3) rfl) $$ Hs
  iintro Hs
  iapply runs_ret
  iapply Hk
  isplitl [Hs]; · iexact Hs
  iexact H

theorem part8 (c : Dev nD) {B : sProp 𝕄} {Q : BitVec 32 → sProp 𝕄} :
    iprop(records m K ∗ blkSt m c (blkLeft c 6) ∗ (blkSt m c ∅ -∗ iprop((yPts c c (yAt m c) ∗ ∃ f, outPts (F := F) c c f) ∗ B)))
      ⊢ iprop((iprop((yPts c c (yAt m c) ∗ outPts c c (outAt m c)) ∗ B) -∗ Q 0#32)
        -∗ Runs c (k0_part8 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 c (num c) (Scalar.divsi (num c) 2#32) (k0_pay12 (k0_pay1 (xAt m c)) (chunk m c (turn c 3))) (k0_pay13 (k0_pay1 (xAt m c)) (chunk m c (turn c 3)))) Q) := by
  simp only [k0_part8_eq_skeleton]; unfold k0_part8_skel
  simp only [semSignalWord, semWaitWord, Prog.lift, Prog.bind_op, Prog.bind_ret, Prog.pure_eq_ret, wp_deviceId]
  iintro ⟨#HR, H, Hnext⟩ Hk
  iapply (make_block m K c 6 (t := half c 3 0) rfl (off₀ := k0_off2 c 3#32 0#32) (k0_off2_eq c 3 0) (v := k0_pay15 (k0_pay12 (k0_pay1 (xAt m c)) (chunk m c (turn c 3))) (k0_pay13 (k0_pay1 (xAt m c)) (chunk m c (turn c 3)))) (val_left m c 3)
      (p := k0_cond7 c = 1#1) (cond7_eq c) (n := fun h => ⟨k0_dev14 c, k0_dev14_lt c h⟩) (fun _ => Fin.ext (k0_dev14_eq c))
      (off := k0_off30 c) (k0_off30_eq c) (off' := k0_off29 c) (k0_off29_eq c)
      (fun h => sendS_of (half c 3 0) (k0_off27_eq c) (k0_off27_inb c h)) (fun h => recvS_of c (k0_off28_eq c) (k0_off28_inb c h))) $$ [H]
  · isplitr; · iexact HR
    iexact H
  iintro H
  iapply (make_block m K c 7 (t := half c 3 1) rfl (off₀ := k0_off2 c 3#32 1#32) (k0_off2_eq c 3 1) (v := k0_pay16 (k0_pay12 (k0_pay1 (xAt m c)) (chunk m c (turn c 3))) (k0_pay13 (k0_pay1 (xAt m c)) (chunk m c (turn c 3)))) (val_right m c 3)
      (p := k0_cond8 c = 1#1) (cond8_eq c) (n := fun h => ⟨k0_dev15 c, k0_dev15_lt c h⟩) (fun _ => Fin.ext (k0_dev15_eq c))
      (off := k0_off34 c) (k0_off34_eq c) (off' := k0_off33 c) (k0_off33_eq c)
      (fun h => sendS_of (half c 3 1) (k0_off31_eq c) (k0_off31_inb c h)) (fun h => recvS_of c (k0_off32_eq c) (k0_off32_inb c h))) $$ [H]
  · isplitr; · iexact HR
    iexact H
  iintro H
  ihave H' := (Entails.of_eq (by rw [show blkLeft c (((7 : Fin 8) : ℕ) + 1) = ∅ from blkLeft_eight c])) $$ H
  ihave Hown := Hnext $$ H'
  icases Hown with ⟨Hown, HB⟩
  iapply (step_own m c (k0_off35_eq c) (k0_off36_eq c)) $$ Hown
  iintro Hown
  iapply runs_ret
  iapply Hk
  isplitl [Hown] <;> iassumption

theorem part9 (c : Dev nD) {B : sProp 𝕄} {Q : BitVec 32 → sProp 𝕄} :
    iprop(records m K ∗ recvSt m c (upFrom 0) ∗ (recvSt m c (upFrom 8) -∗ iprop(sendSt m c (upFrom 0) ∗ B)))
      ⊢ iprop((iprop(sendSt m c (upFrom 2) ∗ B) -∗ Q 2#32)
        -∗ Runs c (k0_part9 (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 (num c) 0#32) Q) := by
  simp only [k0_part9_eq_skeleton]; unfold k0_part9_skel
  simp only [semSignalWord, semWaitWord, Prog.lift, Prog.bind_op, Prog.bind_ret, Prog.pure_eq_ret, wp_deviceId]
  iintro ⟨#HR, H, Hnext⟩ Hk
  iapply (wait_recv m K c 0 rfl (ne_iff c 0) rfl rfl) $$ [H]
  · isplitr; · iexact HR
    iexact H
  iintro H
  iapply (wait_recv m K c 1 rfl (ne_iff c 1) rfl rfl) $$ [H]
  · isplitr; · iexact HR
    iexact H
  iintro H
  iapply (wait_recv m K c 2 rfl (ne_iff c 2) rfl rfl) $$ [H]
  · isplitr; · iexact HR
    iexact H
  iintro H
  iapply (wait_recv m K c 3 rfl (ne_iff c 3) rfl rfl) $$ [H]
  · isplitr; · iexact HR
    iexact H
  iintro H
  iapply (wait_recv m K c 4 rfl (ne_iff c 4) rfl rfl) $$ [H]
  · isplitr; · iexact HR
    iexact H
  iintro H
  iapply (wait_recv m K c 5 rfl (ne_iff c 5) rfl rfl) $$ [H]
  · isplitr; · iexact HR
    iexact H
  iintro H
  iapply (wait_recv m K c 6 rfl (ne_iff c 6) rfl rfl) $$ [H]
  · isplitr; · iexact HR
    iexact H
  iintro H
  iapply (wait_recv m K c 7 rfl (ne_iff c 7) rfl rfl) $$ [H]
  · isplitr; · iexact HR
    iexact H
  iintro H
  ihave H' := (Entails.of_eq (show recvSt m c (upFrom ((7 : Dev nD).val + 1)) = recvSt m c (upFrom 8) from rfl)) $$ H
  ihave H := Hnext $$ H'
  icases H with ⟨H, HB⟩
  iapply (wait_sent m K c 0 rfl (ne_iff c 0) rfl rfl) $$ [H]
  · isplitr; · iexact HR
    iexact H
  iintro H
  iapply (wait_sent m K c 1 rfl (ne_iff c 1) rfl rfl) $$ [H]
  · isplitr; · iexact HR
    iexact H
  iintro H
  iapply runs_ret
  iapply Hk
  isplitl [H]; · iexact H
  iexact HB

end Cert.KRun

end
-- ==== Proof.Body.lean ====
/-
# The body

From what a device holds when the kernel starts to what it holds when the kernel ends.
-/
module

public import proofs.«01_k».proof.Proof.Parts

@[expose] public section

noncomputable section

namespace Cert.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CellIx → ℕ)

/-! ## From one stage to the next -/

omit [FloatOps F] in
/-- A family that is `A` at `c` and `B` elsewhere. -/
theorem bigSep_if (c : Dev nD) (A B : Dev nD → sProp 𝕄) :
    (bigSep Finset.univ fun t => if t = c then A t else B t) = iprop(A c ∗ bigSep (Finset.univ.erase c) B) := by
  rw [bigSep_take (Finset.mem_univ c), if_pos rfl]
  congr 1
  exact bigSep_congr fun t ht => if_neg (Finset.ne_of_mem_erase ht)

/-- Once every device has signalled, no block is made yet and every block may be. -/
theorem blk_start (c : Dev nD) :
    iprop((ow c ∅ (Finset.univ.erase c) ∗ bigSep (Finset.univ.erase c) fun d => iprop(∃ f, outPts (F := F) d c f))
        ∗ (bigSep Finset.univ fun t => iprop(∃ f, yPts (F := F) c t f))
        ∗ bigSep (Finset.univ.erase c) fun t => iprop(dutyTok EX (sendCell c t) 0 t ∗ dutyTok EX (recvCell t c) 0 c))
      ⊢ blkSt m c (blkLeft c 0) := by
  show _ ⊢ blkSt m c Finset.univ
  unfold blkSt
  rw [bigSep_sep' Finset.univ (fun t => iprop(∃ f, yPts (F := F) c t f)), Finset.sdiff_self, bigSep_empty]
  have e : (bigSep Finset.univ fun t => blkTodo (F := F) c t)
      = iprop(emp ∗ bigSep (Finset.univ.erase c) fun t => iprop((∃ f, outPts (F := F) t c f) ∗ dutyTok EX (sendCell c t) 0 t ∗ dutyTok EX (recvCell t c) 0 c)) :=
    bigSep_if c (fun _ => iprop(emp)) _
  rw [e, bigSep_sep' (Finset.univ.erase c) (fun t => iprop(∃ f, outPts (F := F) t c f))]
  iintro ⟨⟨HO, Hp⟩, Hy, Ht⟩
  isplitl [HO]; · iexact HO
  isplitr []
  · isplitl [Hy]; · iexact Hy
    isplitr; · iempintro
    isplitl [Hp] <;> iassumption
  iempintro

/-- When every block is made, `c` has its own and waits for the others to have left. -/
theorem blk_end (c : Dev nD) :
    blkSt m c ∅ ⊢ iprop(ow c ∅ ∅ ∗ yPts c c (yAt m c) ∗ bigSep (Finset.univ.erase c) fun t => cred (tallyAt (sendCell c t) () N)) := by
  unfold blkSt
  rw [bigSep_empty, Finset.sdiff_empty, show (∅ : Finset (Dev nD)).erase c = ∅ from rfl]
  have e : (bigSep Finset.univ fun t => blkDone m c t)
      = iprop(yPts c c (yAt m c) ∗ bigSep (Finset.univ.erase c) fun t => cred (tallyAt (sendCell c t) () N)) :=
    bigSep_if c (fun _ => yPts c c (yAt m c)) _
  rw [e]
  iintro ⟨HO, -, H⟩
  isplitl [HO] <;> iassumption

theorem recv_start (c : Dev nD) :
    iprop(ow c ∅ ∅ ∗ outPts c c (outAt m c) ∗ (bigSep (Finset.univ.erase c) fun s => cred (tallyAt (recvCell c s) () N))
        ∗ bigSep Finset.univ fun s => atPos EX (recvCell c s) 0 ∅ 0) ⊢ recvSt m c (upFrom 0) := by
  rw [upFrom_zero]
  unfold recvSt recvTodo
  rw [bigSep_sep', Finset.sdiff_self, bigSep_empty, bigSep_if c (fun s => outPts c s (outAt m c))]
  iintro ⟨HO, Ho, Hc, Ha⟩
  isplitl [HO]; · iexact HO
  isplitr []
  · isplitl [Ha]; · iexact Ha
    isplitl [Ho] <;> iassumption
  iempintro

theorem recv_end (c : Dev nD) :
    recvSt m c (upFrom 8) ⊢ iprop(ow c ∅ ∅ ∗ (bigSep Finset.univ fun s => atPos EX (recvCell c s) (if s = c then 0 else 1) ∅ 0)
        ∗ bigSep Finset.univ fun s => outPts c s (outAt m c)) := by
  rw [upFrom_eight]
  unfold recvSt recvDone
  rw [bigSep_empty, Finset.sdiff_empty, bigSep_sep']
  iintro ⟨HO, -, H⟩
  isplitl [HO] <;> iassumption

theorem send_start (c : Dev nD) :
    iprop(ow c ∅ ∅ ∗ yPts c c (yAt m c) ∗ (bigSep (Finset.univ.erase c) fun t => cred (tallyAt (sendCell c t) () N))
        ∗ bigSep Finset.univ fun t => atPos EX (sendCell c t) 0 ∅ 0) ⊢ sendSt m c (upFrom 0) := by
  rw [upFrom_zero]
  unfold sendSt sendTodo
  rw [bigSep_sep', Finset.sdiff_self, bigSep_empty, bigSep_if c (fun t => yPts c t (yAt m c))]
  iintro ⟨HO, Ho, Hc, Ha⟩
  isplitl [HO]; · iexact HO
  isplitr []
  · isplitl [Ha]; · iexact Ha
    isplitl [Ho] <;> iassumption
  iempintro

theorem send_end (c : Dev nD) :
    sendSt m c (upFrom 8) ⊢ iprop(ow c ∅ ∅ ∗ (bigSep Finset.univ fun t => atPos EX (sendCell c t) (if t = c then 0 else 1) ∅ 0)
        ∗ bigSep Finset.univ fun t => yPts c t (yAt m c)) := by
  rw [upFrom_eight]
  unfold sendSt sendDone
  rw [bigSep_empty, Finset.sdiff_empty, bigSep_sep']
  iintro ⟨HO, -, H⟩
  isplitl [HO] <;> iassumption

/-! ## The cells are given back -/

theorem close_at (c : Dev nD) (k : CellIx) {R : ℕ} (hR : ∀ r, R ≤ r → (Rd (F := F) m).duties (kcell (c, k)) r = ∅) :
    iprop(records m K ∗ atPos EX (kcell (c, k)) R ∅ 0) ⊢ (|={Set.univ}=> semVal (kcell (c, k)) 0 : sProp 𝕄) := by
  iintro ⟨#HR, Hat⟩
  iapply (Rounds.cell_close EX (Rd m) (Set.mem_univ (K (c, k))) (fun h => h) hR)
  isplitr; · iapply (inv_at m K (c, k)); iexact HR
  iexact Hat

theorem close_sends (c : Dev nD) :
    iprop(records m K ∗ bigSep Finset.univ fun t => atPos EX (sendCell c t) (if t = c then 0 else 1) ∅ 0)
      ⊢ (|={Set.univ}=> bigSep Finset.univ fun t => semVal (sendCell c t) 0 : sProp 𝕄) :=
  (bigSep_with_persistent fun t _ => close_at m K c (.inr (.inl t)) (by
    by_cases h : t = c
    · rw [if_pos h, h]; exact fun r _ => duties_send_self m c r
    · rw [if_neg h]; exact duties_later m _)).trans (bigSep_fupd _ _)

theorem close_recvs (c : Dev nD) :
    iprop(records m K ∗ bigSep Finset.univ fun s => atPos EX (recvCell c s) (if s = c then 0 else 1) ∅ 0)
      ⊢ (|={Set.univ}=> bigSep Finset.univ fun s => semVal (recvCell c s) 0 : sProp 𝕄) :=
  (bigSep_with_persistent fun s _ => close_at m K c (.inr (.inr s)) (by
    by_cases h : s = c
    · rw [if_pos h, h]; exact fun r _ => duties_recv_self m c r
    · rw [if_neg h]; exact duties_later m _)).trans (bigSep_fupd _ _)

/-! ## The whole body -/

/-- What device `c` starts the body with; -/
def bodyPre (c : Dev nD) : sProp 𝕄 :=
  iprop(sigSt (F := F) c (Finset.univ.erase c) (Finset.univ.erase c)
    ∗ (xPts m c ∗ (∃ f, xfPts c f) ∗ semVal ((c : Thread nD τ), .dma xloadS) 0) ∗ (slotFree m c 0 ∗ slotFree m c 1)
    ∗ (cred (tallyAt (barCell c) () 7) ∗ atPos EX (barCell c) 0 ∅ 0)
    ∗ ((bigSep Finset.univ fun t => iprop(∃ f, yPts (F := F) c t f))
        ∗ bigSep (Finset.univ.erase c) fun t => iprop(dutyTok EX (sendCell c t) 0 t ∗ dutyTok EX (recvCell t c) 0 c))
    ∗ (∃ f, outPts (F := F) c c f)
    ∗ (bigSep (Finset.univ.erase c) fun s => cred (tallyAt (recvCell c s) () N))
    ∗ (bigSep Finset.univ fun s => atPos EX (recvCell c s) 0 ∅ 0) ∗ bigSep Finset.univ fun t => atPos EX (sendCell c t) 0 ∅ 0)

/-- and what it ends it with. -/
def bodyPost (c : Dev nD) : sProp 𝕄 :=
  iprop(ow (F := F) c ∅ ∅ ∗ ((xfPts c (xAt m c) ∗ xPts m c) ∗ semVal ((c : Thread nD τ), .dma xloadS) 0) ∗ (slotFree m c 0 ∗ slotFree m c 1)
    ∗ semVal (barCell c) 0
    ∗ (bigSep Finset.univ fun t => yPts c t (yAt m c)) ∗ (bigSep Finset.univ fun s => outPts c s (outAt m c))
    ∗ (bigSep Finset.univ fun t => semVal (sendCell c t) 0) ∗ bigSep Finset.univ fun s => semVal (recvCell c s) 0)

/-- Two stretches, one after the other. -/
theorem runs_seq (c : Dev nD) {α β : Type} {p : Prog (TpuEff nD τ sig (Elt F) Λ₀ .tc) α} {k : α → Prog (TpuEff nD τ sig (Elt F) Λ₀ .tc) β} {Q : β → sProp 𝕄}
    {A B : sProp 𝕄} {r : α} (h : ∀ Q' : α → sProp 𝕄, A ⊢ iprop((B -∗ Q' r) -∗ Runs c p Q')) :
    A ⊢ iprop((B -∗ Runs c (k r) Q) -∗ Runs c (p >>= k) Q) := by
  have h' := h fun a => Runs c (k a) Q
  unfold Runs at h' ⊢
  rw [wp_bind]; exact h'

theorem runs_ret_fupd (c : Dev nD) {α : Type} {a : α} {Q : α → sProp 𝕄} : (|={Set.univ}=> Q a) ⊢ Runs (F := F) c (.ret a) Q := by
  unfold Runs
  rw [wp_ret]

theorem body_run (c : Dev nD) {Q : PUnit → sProp 𝕄} :
    iprop(records m K ∗ levAts L lv ∗ bodyPre m c)
      ⊢ iprop((bodyPost m c -∗ Q ⟨⟩)
        -∗ Runs c (cc0_body (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6) Q) := by
  simp only [cc0_body_eq_skeleton]; unfold cc0_body_skel
  simp only [Prog.lift, Prog.bind_op, Prog.bind_ret, Prog.pure_eq_ret]
  unfold bodyPre
  iintro ⟨#HR, #HL, Hsig, Hx, ⟨Hs0, Hs1⟩, ⟨Hcb, Hab⟩, Hblk, Hown, Hcr, Har, Has⟩ Hk
  ihave Hsig := (Entails.of_eq (congrArg (fun S => sigSt (F := F) c S (Finset.univ.erase c)) (sigLeft_one c).symm)) $$ Hsig
  iapply (runs_seq c fun _ => part1 m K c) $$ [Hsig]
  · isplitr; · iexact HR
    iexact Hsig
  iintro Hsig
  iapply (runs_seq c fun _ => part2 m K c 6#32) $$ [Hsig Hx Hs0]
  · isplitr; · iexact HR
    isplitr; · iexact HL
    isplitl [Hsig]; · iexact Hsig
    isplitl [Hx] <;> iassumption
  iintro ⟨HO, Hx, HF⟩
  iapply (runs_seq c fun _ => part3 m K c) $$ [HF Hs1 HO Hcb Hab Hblk]
  · isplitr; · iexact HR
    isplitr; · iexact HL
    isplitl [HF]; · iexact HF
    isplitl [Hs1]; · iexact Hs1
    isplitl [HO]; · iexact HO
    isplitl [Hcb]; · iexact Hcb
    isplitl [Hab]; · iexact Hab
    iintro H
    iapply (blk_start m c)
    isplitl [H] <;> iassumption
  iintro ⟨Hs0, HF, Hab, H⟩
  ihave Hs0 := (slot_free m c 0 (turn c 0)) $$ Hs0
  iapply (runs_seq c fun _ => part4 m K c 1#32) $$ [Hs0 HF H]
  · isplitr; · iexact HR
    isplitr; · iexact HL
    isplitl [Hs0]; · iexact Hs0
    isplitl [HF] <;> iassumption
  iintro ⟨HF, Hs1, H⟩
  iapply (runs_seq c fun _ => part5 m K c) $$ [Hs1 H]
  · isplitr; · iexact HR
    isplitl [Hs1] <;> iassumption
  iintro ⟨Hs1, H⟩
  ihave Hs1 := (slot_free m c 1 (turn c 1)) $$ Hs1
  iapply (runs_seq c fun _ => part6 m c _ _) $$ [HF Hs1 H]
  · isplitr; · iexact HL
    isplitl [HF]; · iexact HF
    isplitl [Hs1] <;> iassumption
  iintro ⟨Hs0, HF, H⟩
  ihave Hs0 := (slot_free m c 0 (turn c 2)) $$ Hs0
  iapply (runs_seq c fun _ => part7 m K c _) $$ [HF H]
  · isplitr; · iexact HR
    isplitr; · iexact HL
    isplitl [HF] <;> iassumption
  iintro ⟨Hs1, H⟩
  ihave Hs1 := (slot_free m c 1 (turn c 3)) $$ Hs1
  iapply (runs_seq c fun _ => part8 m K c (B := iprop(ow c ∅ ∅ ∗ bigSep (Finset.univ.erase c) fun t => cred (tallyAt (sendCell c t) () N)))) $$ [H Hown]
  · isplitr; · iexact HR
    isplitl [H]; · iexact H
    iintro H
    ihave H := (blk_end m c) $$ H
    icases H with ⟨HO, Hy, Hc⟩
    isplitl [Hy Hown]
    · isplitl [Hy] <;> iassumption
    isplitl [HO] <;> iassumption
  iintro ⟨⟨Hy, Ho⟩, HO, Hcs⟩
  ihave Hr := (recv_start m c) $$ [HO Ho Hcr Har]
  · isplitl [HO]; · iexact HO
    isplitl [Ho]; · iexact Ho
    isplitl [Hcr] <;> iassumption
  iapply (runs_seq c fun _ => part9 m K c (B := iprop((bigSep Finset.univ fun s => atPos EX (recvCell c s) (if s = c then 0 else 1) ∅ 0)
        ∗ bigSep Finset.univ fun s => outPts c s (outAt m c)))) $$ [Hr Hy Hcs Has]
  · isplitr; · iexact HR
    isplitl [Hr]; · iexact Hr
    iintro Hr
    ihave Hr := (recv_end m c) $$ Hr
    icases Hr with ⟨HO, HB⟩
    isplitr [HB]
    · iapply (send_start m c)
      isplitl [HO]; · iexact HO
      isplitl [Hy]; · iexact Hy
      isplitl [Hcs] <;> iassumption
    iexact HB
  iintro ⟨H, Har, Hout⟩
  iapply (wait_sent m K c 2 rfl (ne_iff c 2) rfl rfl) $$ [H]
  · isplitr; · iexact HR
    iexact H
  iintro H
  iapply (wait_sent m K c 3 rfl (ne_iff c 3) rfl rfl) $$ [H]
  · isplitr; · iexact HR
    iexact H
  iintro H
  iapply (wait_sent m K c 4 rfl (ne_iff c 4) rfl rfl) $$ [H]
  · isplitr; · iexact HR
    iexact H
  iintro H
  iapply (wait_sent m K c 5 rfl (ne_iff c 5) rfl rfl) $$ [H]
  · isplitr; · iexact HR
    iexact H
  iintro H
  iapply (wait_sent m K c 6 rfl (ne_iff c 6) rfl rfl) $$ [H]
  · isplitr; · iexact HR
    iexact H
  iintro H
  iapply (wait_sent m K c 7 rfl (ne_iff c 7) rfl rfl) $$ [H]
  · isplitr; · iexact HR
    iexact H
  iintro H
  ihave H' := (Entails.of_eq (show sendSt m c (upFrom ((7 : Dev nD).val + 1)) = sendSt m c (upFrom 8) from rfl)) $$ H
  ihave H := (send_end m c) $$ H'
  icases H with ⟨HO, Has, Hys⟩
  iapply runs_ret_fupd
  imod (close_sends m K c) $$ [Has] with Hzs
  · isplitr; · iexact HR
    iexact Has
  imod (close_recvs m K c) $$ [Har] with Hzr
  · isplitr; · iexact HR
    iexact Har
  imod (close_at m K c (.inl ()) (R := 1) (duties_later m _)) $$ [Hab] with Hzb
  · isplitr; · iexact HR
    iexact Hab
  imodintro
  iapply Hk
  unfold bodyPost
  isplitl [HO]; · iexact HO
  isplitl [Hx]; · iexact Hx
  isplitl [Hs0 Hs1]
  · isplitl [Hs0] <;> iassumption
  isplitl [Hzb]; · iexact Hzb
  isplitl [Hys]; · iexact Hys
  isplitl [Hout]; · iexact Hout
  isplitl [Hzs] <;> iassumption

end Cert.KRun

end
-- ==== Proof.Entry.lean ====
/-
# Entering and leaving the body

How the buffers a device holds whole are cut into the blocks the body works on, and put together again; and that the body
does what the launch asks of it.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CellIx → ℕ)

/-! ## Whole buffers and their blocks -/

omit [FloatOps F] in
/-- What holds of a family at one value holds of it at some value each. -/
theorem some_each {I A : Type} (S : Finset I) (Φ : I → A → sProp 𝕄) (a : A) :
    (bigSep S fun i => Φ i a) ⊢ bigSep S fun i => iprop(∃ a, Φ i a) :=
  bigSep_mono fun i _ => show (Φ i a : sProp 𝕄) ⊢ iprop(∃ a, Φ i a) from by iintro H; iexists a; iexact H

omit [FloatOps F] in
theorem out_blocks (c : Dev nD) (f : S4096x256.Idx → Elt F .bf16) :
    (((c : Thread nD τ).loc cc0_stg0_0) ↦{fullShare} f : sProp 𝕄) = bigSep Finset.univ fun s => outPts c s f :=
  Ring.pointsTo_blocks (ℓ := (c : Thread nD τ).loc cc0_stg0_0) outBlk outBlk_disjoint outBlk_cover f
omit [FloatOps F] in
theorem y_blocks (c : Dev nD) (f : S8x512x256.Idx → Elt F .bf16) :
    (((c : Thread nD τ).loc cc0_scratch2) ↦{fullShare} f : sProp 𝕄) = bigSep Finset.univ fun t => yPts c t f :=
  Ring.pointsTo_blocks (ℓ := (c : Thread nD τ).loc cc0_scratch2) yBlk yBlk_disjoint yBlk_cover f
omit [FloatOps F] in
theorem w_blocks (c : Dev nD) (f : S2x4096x512.Idx → Elt F .f32) :
    (((c : Thread nD τ).loc cc0_scratch1) ↦{fullShare} f : sProp 𝕄) = iprop(wfPts c 0 f ∗ wfPts c 1 f) :=
  (Ring.pointsTo_blocks (ℓ := (c : Thread nD τ).loc cc0_scratch1) wBlk wBlk_disjoint wBlk_cover f).trans (bigSep_univ_two _)
omit [FloatOps F] in
theorem w_join (c : Dev nD) : iprop((∃ f, wfPts (F := F) c 0 f) ∗ ∃ f, wfPts (F := F) c 1 f)
    ⊢ (∃ f : Buf (Elt F) ((c : Thread nD τ).loc cc0_scratch1), ((c : Thread nD τ).loc cc0_scratch1) ↦{fullShare} f : sProp 𝕄) := by
  iintro ⟨⟨%f, H⟩, H'⟩
  iapply (Ring.pointsTo_blocks_join_exists (ℓ := (c : Thread nD τ).loc cc0_scratch1) wBlk wBlk_disjoint wBlk_cover f)
  rw [bigSep_univ_two]
  isplitl [H]; · iexists f; unfold wfPts; iexact H
  iexact H'
/-- The two halves of `w`. -/
theorem w_halves (c : Dev nD) : (((c : Thread nD τ).loc main_arg1) ↦{fullShare} wAt m c : sProp 𝕄) ⊣⊢ iprop(wPts m c 0 ∗ wPts m c 1) :=
  pointsTo_share (PosShare.mem_left_op_right fullShare)

/-! ## What a device starts with and ends with -/

/-- Its places in the rounds of its cells, and the tokens of what it will pay into others' and its own. -/
def linear (c : Dev nD) : sProp 𝕄 :=
  iprop((atPos EX (barCell c) 0 ∅ 0 ∗ (bigSep Finset.univ fun t => atPos EX (sendCell c t) 0 ∅ 0) ∗ bigSep Finset.univ fun s => atPos EX (recvCell c s) 0 ∅ 0)
    ∗ (bigSep (Finset.univ.erase c) fun q => dutyTok EX (barCell q) 0 c)
    ∗ bigSep (Finset.univ.erase c) fun t => iprop(dutyTok EX (sendCell c t) 0 t ∗ dutyTok EX (recvCell t c) 0 c))
/-- The semaphores of its copies to itself. -/
def localSems (c : Dev nD) : sProp 𝕄 :=
  iprop(semVal ((c : Thread nD τ), .dma xloadS) 0 ∗ semVal ((c : Thread nD τ), .dma (loadS 0)) 0 ∗ semVal ((c : Thread nD τ), .dma (loadS 1)) 0)
/-- What the run's set-up gives it. -/
def G' (c : Dev nD) : sProp 𝕄 := iprop(∃ K, records m K ∗ linear (F := F) c ∗ localSems c)
/-- Its arguments. -/
def args (c : Dev nD) : sProp 𝕄 := iprop(xPts m c ∗ ((c : Thread nD τ).loc main_arg1) ↦{fullShare} wAt m c)
/-- What others owe it. -/
def creds (c : Dev nD) : sProp 𝕄 :=
  iprop(cred (tallyAt (barCell c) () 7) ∗ bigSep (Finset.univ.erase c) fun s => cred (tallyAt (recvCell c s) () N))
def start (c : Dev nD) : sProp 𝕄 := iprop(G' m c ∗ creds (F := F) c ∗ levAts L lv ∗ args m c)
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
def Φ₀ (c : Dev nD) : sProp 𝕄 := iprop(start m c ∗ scratch (F := F) c)
def Φ₁ (c : Dev nD) : sProp 𝕄 :=
  iprop(args m c ∗ scratch (F := F) c ∗ localSems (F := F) c ∗ semVal (barCell c) 0
    ∗ (bigSep Finset.univ fun t => semVal (sendCell c t) 0) ∗ bigSep Finset.univ fun s => semVal (recvCell c s) 0)

/-- What `c` owes at the start: a signal to each other device and a block to each. -/
abbrev O₀ (c : Dev nD) : CellTallies nD τ sig Unit := due c (Finset.univ.erase c) (Finset.univ.erase c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_start (c : Dev nD) (f : S4096x256.Idx → Elt F .bf16) :
    iprop(linear c ∗ localSems (F := F) c ∗ creds (F := F) c ∗ args m c ∗ scratch (F := F) c ∗ ow (F := F) c (Finset.univ.erase c) (Finset.univ.erase c)
        ∗ ((c : Thread nD τ).loc cc0_stg0_0) ↦{fullShare} f) ⊢ bodyPre m c := by
  unfold linear localSems creds args scratch bodyPre sigSt slotFree
  iintro ⟨⟨⟨Hab, Has, Har⟩, Htb, Hown⟩, ⟨Hsx, Hs0, Hs1⟩, ⟨Hcb, Hcr⟩, ⟨Hx, Hw⟩, ⟨Hxf, ⟨%fw, Hwf⟩, ⟨%fy, Hy⟩⟩, HO, Hst⟩
  ihave Hst := (Entails.of_eq ((out_blocks c f).trans (bigSep_take (Finset.mem_univ c) _))) $$ Hst
  icases Hst with ⟨Ho, Hos⟩
  ihave Hw := (w_halves m c).1 $$ Hw
  icases Hw with ⟨Hw0, Hw1⟩
  ihave Hwf := (Entails.of_eq (w_blocks c fw)) $$ Hwf
  icases Hwf with ⟨Hf0, Hf1⟩
  ihave Hy := (Entails.of_eq (y_blocks c fy)) $$ Hy
  isplitl [HO Htb Hos]
  · isplitl [HO]; · iexact HO
    rw [bigSep_sep']
    isplitl [Htb]; · iexact Htb
    iapply (some_each (Finset.univ.erase c) (fun q => outPts (F := F) c q) f)
    iexact Hos
  isplitl [Hx Hxf Hsx]
  · isplitl [Hx]; · iexact Hx
    isplitl [Hxf]; · iexact Hxf
    iexact Hsx
  isplitl [Hw0 Hw1 Hf0 Hf1 Hs0 Hs1]
  · isplitl [Hw0 Hf0 Hs0]
    · isplitl [Hf0]; · iexists fw; iexact Hf0
      isplitl [Hw0] <;> iassumption
    · isplitl [Hf1]; · iexists fw; iexact Hf1
      isplitl [Hw1] <;> iassumption
  isplitl [Hcb Hab]
  · isplitl [Hcb] <;> iassumption
  isplitl [Hy Hown]
  · isplitl [Hy]
    · iapply (some_each Finset.univ (fun q => yPts (F := F) c q) fy)
      iexact Hy
    iexact Hown
  isplitl [Ho]; · iexists f; iexact Ho
  isplitl [Hcr]; · iexact Hcr
  isplitl [Har] <;> iassumption

theorem body_end (c : Dev nD) :
    bodyPost m c ⊢ iprop(Φ₁ m c ∗ ow (F := F) c ∅ ∅ ∗ ((c : Thread nD τ).loc cc0_stg0_0) ↦{fullShare} outAt m c) := by
  unfold bodyPost Φ₁ localSems args scratch slotFree
  rw [out_blocks, ← y_blocks]
  iintro ⟨HO, ⟨⟨Hxf, Hx⟩, Hsx⟩, ⟨⟨Hf0, Hw0, Hs0⟩, Hf1, Hw1, Hs1⟩, Hb, Hy, Ho, Hss, Hsr⟩
  isplitr [HO Ho]
  · isplitl [Hx Hw0 Hw1]
    · isplitl [Hx]; · iexact Hx
      iapply (w_halves m c).2
      isplitl [Hw0] <;> iassumption
    isplitl [Hxf Hf0 Hf1 Hy]
    · isplitl [Hxf]; · iexists (xAt m c); unfold xfPts; iexact Hxf
      isplitl [Hf0 Hf1]
      · iapply (w_join (F := F) c)
        isplitl [Hf0] <;> iassumption
      iexists (yAt m c); iexact Hy
    isplitl [Hsx Hs0 Hs1]
    · isplitl [Hsx]; · iexact Hsx
      isplitl [Hs0] <;> iassumption
    isplitl [Hb]; · iexact Hb
    isplitl [Hss] <;> iassumption
  isplitl [HO] <;> iassumption

/-! ## What the launch asks of the body -/

omit [FloatOps F] in
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

theorem body_is : defs₀ (F := F) .tc 0 (t0_0, cfg0.slots t0_0)
    = cc0_body (F := F) xM (Memref.isWhole_whole _) wM (Memref.isWhole_whole _) oM (Memref.isWhole_whole _) xfM (Memref.isWhole_whole _) wfM (Memref.isWhole_whole _)
      yM (Memref.isWhole_whole _) cc0_scratch3 cc0_scratch4 cc0_scratch5 cc0_scratch6 := rfl

set_option maxRecDepth 4000 in
theorem body_obligation (c : Dev nD) : BodyObligation (dats (F := F) m ρ 0 c) (defs₀ (F := F)) 𝒱₀ () Set.univ := fun t => by
  rw [fin_N0 t, bigSep_W0, bigSep_W0]
  simp only [owns_buffer]
  rw [show (dats m ρ 0 c).Φ t0_0.castSucc = Φ₀ m c from rfl, show (dats m ρ 0 c).Φ t0_0.succ = Φ₁ m c from rfl, body_is,
    show (dats m ρ 0 c).after (0 : Fin 1) t0_0 = outAt m c from rfl]
  unfold Φ₀ start G' Dat.owesAt Pipeline.owesWithin
  rw [show (dats m ρ 0 c).owed t0_0.castSucc = O₀ c from rfl, show (dats m ρ 0 c).owed t0_0.succ = 0 from rfl]
  iintro ⟨⟨⟨⟨%K, #HR, Hl, Hs⟩, Hcr, #HL, Ha⟩, Hsc⟩, ⟨%W, %hW, HO⟩, ⟨%d, %f, -, Ho⟩⟩
  ihave Hpre := (body_start m c f) $$ [Hl Hs Hcr Ha Hsc HO Ho]
  · isplitl [Hl]; · iexact Hl
    isplitl [Hs]; · iexact Hs
    isplitl [Hcr]; · iexact Hcr
    isplitl [Ha]; · iexact Ha
    isplitl [Hsc]; · iexact Hsc
    isplitl [HO]; · unfold ow; iexists W; iexact HO
    iexact Ho
  iapply (body_run m K c) $$ [Hpre]
  · isplitr; · iexact HR
    isplitr; · iexact HL
    iexact Hpre
  iintro Hpost
  ihave H := (body_end m c) $$ Hpost
  unfold ow
  icases H with ⟨HΦ, ⟨%W', HO⟩, Ho⟩
  isplitl [HΦ]; · iexact HΦ
  isplitl [HO]
  · iexists W'
    isplitr; · ipureintro; exact fun _ _ => Or.inl trivial
    rw [due_none]; iexact HO
  iexists _; isplitr; · (ipureintro; rfl)
  iexact Ho

end Cert.KRun

end
-- ==== Proof.Launch.lean ====
/-
# The run of all the devices

The set-up shared by the devices — the rounds of every cell, the tokens dealt to those who pay them, what each device is owed
at the start — and the run of the whole program: it ends, nothing is left in any semaphore, the arguments are as they were,
and each device's result is the array the body leaves.
-/
module

public import proofs.«01_k».proof.Proof.Entry
public import Idealize.ShloMosaic.Lib.Pipeline.Launch
public import Idealize.ShloMosaic.Lib.Pipeline.CollectiveSegs

@[expose] public section

noncomputable section

namespace Cert.KRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: those of the copies within the device, the send and the receive semaphores. -/
abbrev osem : Fin 3 ⊕ (Dev nD ⊕ Dev nD) → SemLoc sig
  | .inl 0 => .dma xloadS
  | .inl 1 => .dma (loadS 0)
  | .inl 2 => .dma (loadS 1)
  | .inr k => csem (.inr k)

theorem own_facts : Pipeline.OwnSemFacts cfg0.spec osem := by decide

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
theorem own_sems (c : Dev nD) : (Pipeline.ownSems0 (Ix := Unit) (Name := ℕ) (U := UU) (Lvl := ℕ) (Val := Elt F) (τ := τ) osem c : sProp 𝕄)
    = iprop(localSems (F := F) c ∗ (bigSep Finset.univ fun t => semVal (sendCell c t) 0) ∗ bigSep Finset.univ fun s => semVal (recvCell c s) 0) := by
  unfold Pipeline.ownSems0 localSems
  rw [bigSep_univ_sum, bigSep_univ_sum, bigSep_three]
  rfl

omit [FloatOps F] in
/-- The barrier semaphore is the only one that outlives the kernel. -/
theorem bar_sem (c : Dev nD) : (unscopedSems0 c : sProp 𝕄) = semVal (barCell c) 0 := by
  unfold unscopedSems0; rw [bigSep_eq_bigSepL_of_eq [SemLoc.reg barS] (by decide) (by decide)]; rfl

/-- A family over a device's cells, by kind. -/
theorem cells_eq (Φ : CellIx → sProp 𝕄) :
    bigSep Finset.univ Φ = iprop(Φ (.inl ()) ∗ (bigSep Finset.univ fun t => Φ (.inr (.inl t))) ∗ bigSep Finset.univ fun s => Φ (.inr (.inr s))) := by
  rw [bigSep_univ_sum, bigSep_univ_sum]
  congr 1
  exact bigSep_singleton

/-! ## The rounds and the tokens at the start -/

theorem csem_inj : Function.Injective csem := by decide
theorem kcell_inj : Function.Injective (kcell : Dev nD × CellIx → GSem nD τ sig) := by
  rintro ⟨c, k⟩ ⟨c', k'⟩ h
  have h1 : c = c' := congrArg (fun g : GSem nD τ sig => g.1.1) h
  have h2 : k = k' := csem_inj (congrArg Prod.snd h)
  rw [h1, h2]
def exCells : Finset (GSem nD τ sig) := Finset.univ.map ⟨kcell, kcell_inj⟩

/-- A token of a cell of a device, by the kind of the cell and the device that pays, sends to, or sends from. -/
abbrev TokIx : Type := Dev nD ⊕ (Dev nD ⊕ Dev nD)
abbrev tokCell : TokIx → CellIx × Dev nD
  | .inl d => (.inl (), d)
  | .inr (.inl t) => (.inr (.inl t), t)
  | .inr (.inr s) => (.inr (.inr s), s)
theorem tokCell_inj : Function.Injective tokCell := by decide
abbrev tokOf (ck : Dev nD × TokIx) : GSem nD τ sig × ℕ × Dev nD := (kcell (ck.1, (tokCell ck.2).1), 0, (tokCell ck.2).2)
theorem tokOf_inj : Function.Injective (tokOf : Dev nD × TokIx → GSem nD τ sig × ℕ × Dev nD) := by
  rintro ⟨c, k⟩ ⟨c', k'⟩ h
  have h1 := kcell_inj (congrArg Prod.fst h)
  have h2 : k = k' := tokCell_inj (Prod.ext (congrArg Prod.snd h1) (congrArg (fun x => x.2.2) h))
  have h3 : c = c' := congrArg Prod.fst h1
  rw [h2, h3]
def exToks : Finset (GSem nD τ sig × ℕ × Dev nD) := Finset.univ.map ⟨tokOf, tokOf_inj⟩

/-- The set-up's element: the staging's rounds, the exchange's rounds, the local copies' counters. -/
def u₀ : UU := (initOf (Pipeline.cells cfgs cellOf_inj) (Pipeline.launchToks cfgs cellOf_inj), (initOf exCells exToks, 1))

/-- The tokens of device `c`'s own cells. -/
def toks (c : Dev nD) : sProp 𝕄 :=
  iprop((bigSep Finset.univ fun d => dutyTok EX (barCell c) 0 d) ∗ (bigSep Finset.univ fun t => dutyTok EX (sendCell c t) 0 t)
    ∗ bigSep Finset.univ fun s => dutyTok EX (recvCell c s) 0 s)

/-- What the set-up's element gives device `c`. -/
def G (c : Dev nD) : sProp 𝕄 :=
  iprop((bigSep Finset.univ fun k : CellIx => roundState EX (Rd m) (kcell (c, k)) 0)
    ∗ (bigSep Finset.univ fun k : CellIx => atPos EX (kcell (c, k)) 0 ∅ 0) ∗ (bigSep Finset.univ fun k : CellIx => reached EX (kcell (c, k)) 0)
    ∗ toks (F := F) c)

omit [FloatOps F] in
theorem own_pair (a : UR sig nD τ) (b : UB) : (ownU ((a, (b, 1)) : UU) : sProp 𝕄) ⊢ iprop(BI.own (EP a) ∗ BI.own (EX b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

omit [FloatOps F] in
theorem over_cells (Φ : GSem nD τ sig → sProp 𝕄) :
    bigSep exCells Φ = bigSep Finset.univ fun c : Dev nD => bigSep Finset.univ fun k : CellIx => Φ (kcell (c, k)) := by
  unfold exCells; rw [bigSep_map, bigSep_univ_prod]; rfl
omit [FloatOps F] in
theorem over_toks : bigSep exToks (fun x => (dutyTok EX x.1 x.2.1 x.2.2 : sProp 𝕄)) = bigSep Finset.univ fun c : Dev nD => toks c := by
  unfold exToks; rw [bigSep_map, bigSep_univ_prod]
  exact bigSep_congr fun c _ => by unfold toks; rw [bigSep_univ_sum, bigSep_univ_sum]; rfl

theorem fund_all : BI.own (EX (initOf exCells exToks)) ⊢ (|==> bigSep Finset.univ (G m) : sProp 𝕄) := by
  iintro HX
  imod (Rounds.fund EX (Rd m) exCells exToks) $$ HX with ⟨Hst, Hr, Hat, Htok⟩
  imodintro
  ihave Hst := (Entails.of_eq (over_cells fun g => roundState EX (Rd m) g 0)) $$ Hst
  ihave Hat := (Entails.of_eq (over_cells fun g => atPos EX g 0 ∅ 0)) $$ Hat
  ihave Hr := (Entails.of_eq (over_cells fun g => reached EX g 0)) $$ Hr
  ihave Htok := (Entails.of_eq (over_toks (F := F))) $$ Htok
  unfold G; simp only [bigSep_sep']
  isplitl [Hst]; · iexact Hst
  isplitl [Hat]; · iexact Hat
  isplitl [Hr]; · iexact Hr
  iexact Htok

/-! ## Every cell put under its invariant, the tokens dealt -/

/-- What is `c`'s once its cells are under their invariants. -/
def opened (c : Dev nD) : sProp 𝕄 :=
  iprop((bigSep Finset.univ fun k : CellIx => iprop(∃ κ : ℕ, cellInv EX (Rd m) κ (kcell (c, k))))
    ∗ (bigSep Finset.univ fun k : CellIx => atPos EX (kcell (c, k)) 0 ∅ 0) ∗ (bigSep Finset.univ fun k : CellIx => reached EX (kcell (c, k)) 0)
    ∗ toks (F := F) c ∗ localSems (F := F) c)

theorem open_cells (c : Dev nD) :
    iprop((bigSep Finset.univ fun k : CellIx => semVal (kcell (c, k)) 0) ∗ bigSep Finset.univ fun k : CellIx => roundState EX (Rd m) (kcell (c, k)) 0)
      ⊢ (|={Set.univ}=> bigSep Finset.univ fun k : CellIx => iprop(∃ κ : ℕ, cellInv EX (Rd m) κ (kcell (c, k))) : sProp 𝕄) := by
  rw [← bigSep_sep']
  exact (bigSep_mono fun k _ => (Rounds.body_intro EX (Rd m) (kcell (c, k))).trans inv_alloc).trans (bigSep_fupd _ _)

theorem open_device (c : Dev nD) :
    iprop(Pipeline.ownSems0 (Ix := Unit) (Name := ℕ) (U := UU) (Lvl := ℕ) (Val := Elt F) (τ := τ) osem c ∗ unscopedSems0 c ∗ G m c)
      ⊢ |={Set.univ}=> opened m c := by
  unfold G opened
  rw [own_sems, bar_sem]
  iintro ⟨⟨Hloc, Hs, Hr⟩, Hb, Hst, Hat, Hre, Htok⟩
  imod (open_cells m c) $$ [Hs Hr Hb Hst] with Hinv
  · isplitr [Hst]
    · rw [cells_eq]
      isplitl [Hb]; · iexact Hb
      isplitl [Hs] <;> iassumption
    iexact Hst
  imodintro
  isplitl [Hinv]; · iexact Hinv
  isplitl [Hat]; · iexact Hat
  isplitl [Hre]; · iexact Hre
  isplitl [Htok] <;> iassumption

omit [FloatOps F] in
theorem drop_one (c : Dev nD) (Φ : Dev nD → sProp 𝕄) : bigSep Finset.univ Φ ⊢ bigSep (Finset.univ.erase c) Φ :=
  bigSep_subset (Finset.erase_subset _ _)

/-- The tokens a device keeps or is dealt. -/
def payToks (c : Dev nD) : sProp 𝕄 :=
  iprop((bigSep (Finset.univ.erase c) fun q => dutyTok EX (barCell q) 0 c)
    ∗ bigSep (Finset.univ.erase c) fun t => iprop(dutyTok EX (sendCell c t) 0 t ∗ dutyTok EX (recvCell t c) 0 c))

omit [FloatOps F] in
theorem deal : (bigSep Finset.univ fun c : Dev nD => (toks c : sProp 𝕄)) ⊢ bigSep Finset.univ fun c : Dev nD => payToks c := by
  unfold toks
  rw [bigSep_sep', bigSep_sep', bigSep_univ_comm (fun c d => (dutyTok EX (barCell c) 0 d : sProp 𝕄)),
    bigSep_univ_comm (fun c s => (dutyTok EX (recvCell c s) 0 s : sProp 𝕄)), ← bigSep_sep', ← bigSep_sep']
  refine bigSep_mono fun c _ => show iprop((bigSep Finset.univ fun q => dutyTok EX (barCell q) 0 c)
    ∗ (bigSep Finset.univ fun t => dutyTok EX (sendCell c t) 0 t) ∗ bigSep Finset.univ fun t => dutyTok EX (recvCell t c) 0 c) ⊢ (payToks c : sProp 𝕄) from ?_
  unfold payToks
  rw [bigSep_sep']
  iintro ⟨H1, H2, H3⟩
  isplitl [H1]; · iapply (drop_one c fun q => dutyTok EX (barCell q) 0 c); iexact H1
  isplitl [H2]; · iapply (drop_one c fun t => dutyTok EX (sendCell c t) 0 t); iexact H2
  iapply (drop_one c fun t => dutyTok EX (recvCell t c) 0 c); iexact H3

theorem give (K : Dev nD × CellIx → ℕ) (c : Dev nD) :
    iprop(records m K ∗ (bigSep Finset.univ fun k : CellIx => atPos EX (kcell (c, k)) 0 ∅ 0) ∗ payToks (F := F) c ∗ localSems (F := F) c) ⊢ G' m c := by
  rw [cells_eq]
  unfold payToks G' linear
  iintro ⟨HR, Hat, Hp, Hl⟩
  iexists K
  isplitl [HR]; · iexact HR
  isplitr [Hl]
  · isplitl [Hat] <;> iassumption
  iexact Hl

theorem regroup : (bigSep Finset.univ fun c : Dev nD => opened m c) ⊢ bigSep Finset.univ (G' m) := by
  unfold opened
  rw [bigSep_sep', bigSep_sep', bigSep_sep', bigSep_sep', ← bigSep_univ_prod (fun ck : Dev nD × CellIx => iprop(∃ κ : ℕ, cellInv EX (Rd m) κ (kcell ck))),
    ← bigSep_univ_prod (fun ck : Dev nD × CellIx => (reached EX (kcell ck) 0 : sProp 𝕄))]
  iintro ⟨HI, Hat, #HR, Htok, Hloc⟩
  ihave HK := (BI.bigSep_exists_pi Finset.univ (fun (ck : Dev nD × CellIx) (κ : ℕ) => (cellInv EX (Rd m) κ (kcell ck) : sProp 𝕄))) $$ HI
  icases HK with ⟨%K, #HI⟩
  ihave Htk := (deal (F := F)) $$ Htok
  iapply (bigSep_with_persistent (R := records m K) fun c _ => give m K c)
  isplitr
  · unfold records; isplitl; · iexact HI
    iexact HR
  rw [bigSep_sep', bigSep_sep']
  isplitl [Hat]; · iexact Hat
  isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_device m c).trans (bigSep_fupd _ _)).trans (BI.fupd_mono (regroup m))

/-! ## What each device is owed at the start -/

theorem tally_sum {A : Type} (S : Finset A) (g' : A → GSem nD τ sig) (k : ℕ) (g : GSem nD τ sig) :
    (∑ a ∈ S, tallyAt (g' a) () k : CellTallies nD τ sig Unit) g () = ∑ a ∈ S, if g = g' a then k else 0 := by
  classical
  induction S using Finset.induction_on with
  | empty => rfl
  | insert a S ha ih =>
    rw [Finset.sum_insert ha, Finset.sum_insert ha, Pi.add_apply, Finsupp.add_apply, ih, tallyAt_apply]
    simp only [and_true]

theorem due_at (c : Dev nD) (S T : Finset (Dev nD)) (g : GSem nD τ sig) :
    due c S T g () = (∑ q ∈ S, if g = barCell q then 1 else 0) + ∑ t ∈ T, if g = recvCell t c then N else 0 := by
  unfold due; rw [Pi.add_apply, Finsupp.add_apply, tally_sum, tally_sum]

theorem bar_iff {a b : Dev nD} : barCell a = barCell b ↔ a = b :=
  ⟨fun h => congrArg (fun g : GSem nD τ sig => g.1.1) h, fun h => h ▸ rfl⟩
theorem recv_iff {a b s d : Dev nD} : recvCell a s = recvCell b d ↔ a = b ∧ s = d :=
  ⟨fun h => ⟨congrArg (fun g : GSem nD τ sig => g.1.1) h, recvS_inj (SemLoc.dma.inj (congrArg Prod.snd h))⟩, fun ⟨h, h'⟩ => h ▸ h' ▸ rfl⟩

theorem owed_bar (d c : Dev nD) : O₀ d (barCell c) () = if c = d then 0 else 1 := by
  rw [due_at, Finset.sum_congr rfl (g := fun q => if c = q then 1 else 0) fun q _ => if_congr bar_iff rfl rfl,
    Finset.sum_congr rfl (g := fun _ => 0) fun t _ => if_neg fun h => dma_ne_bar _ (congrArg Prod.snd h).symm, Finset.sum_const_zero, Finset.sum_ite_eq]
  by_cases h : c = d <;> simp [h]

theorem owed_recv (d c s : Dev nD) (hs : s ≠ c) : O₀ d (recvCell c s) () = if d = s then N else 0 := by
  rw [due_at, Finset.sum_congr rfl (g := fun _ => 0) fun q _ => if_neg fun h => dma_ne_bar _ (congrArg Prod.snd h), Finset.sum_const_zero, Nat.zero_add,
    Finset.sum_congr rfl (g := fun t => if c = t then (if d = s then N else 0) else 0) fun t _ => by
      by_cases h : c = t <;> by_cases h' : d = s <;> simp only [recv_iff, h, h', true_and, false_and, if_true, if_false, eq_comm (a := s)],
    Finset.sum_ite_eq]
  by_cases h : d = s
  · rw [if_pos (Finset.mem_erase.mpr ⟨fun e => hs (h.symm.trans e.symm), Finset.mem_univ _⟩)]
  · rw [if_neg h, ite_self]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c s : Dev nD) (hs : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ s fun _ => N, if_pos (Finset.mem_univ _)]

/-- The receive semaphores of the blocks from others. -/
def recvSems (c : Dev nD) : Finset (SemLoc sig) := (Finset.univ.erase c).map ⟨fun s => SemLoc.dma (recvS s), fun s s' h => recvS_inj (SemLoc.dma.inj h)⟩

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := recvSems c) fun x hx => ?_).trans ?_
  · obtain ⟨s, _, rfl⟩ := Finset.mem_map.mp hx
    exact Finset.mem_erase.mpr ⟨dma_ne_bar _, Finset.mem_univ _⟩
  unfold recvSems
  rw [bigSep_map]
  exact Entails.of_eq (bigSep_congr fun s hs => congrArg cred (launch_recv c s (Finset.ne_of_mem_erase hs)))

/-! ## Into and out of the kernel -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start args xPts
  isplitl
  · isplitl [HG]; · iexact HG
    isplitl [Hc]; · iexact Hc
    isplitl [Hlev]; · iexact Hlev
    iexact Ha
  iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What outlives the kernel: the barrier semaphore at zero, the arguments. -/
def left (c : Dev nD) : sProp 𝕄 := iprop(unscopedSems0 c ∗ args m c)

theorem leave (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq, own_sems]
  unfold left Φ₁ scratch
  rw [bar_sem]
  iintro ⟨Ha, Hsc, Hl, Hb, Hs, Hr⟩
  isplitl [Hb Ha]
  · isplitl [Hb] <;> iassumption
  isplitl [Hl Hs Hr]
  · isplitl [Hl]; · iexact Hl
    isplitl [Hs] <;> iassumption
  iexact Hsc

theorem stage_low : ∀ (w : Fin cfg0.W) (s : Fin (cfg0.win w).nbuf) (d : Dev nD), (cfg0.win w).sem s ≠ recvS d := by decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (stage_low w s) _ _
    · show _ ⊢ MayWait _ _ _ 0
      rw [MayWait_zero]; iintro -; iempintro

theorem share_eq (c : Dev nD) (w : Fin cfg0.W) : (dats m ρ 0 c).share w = fullShare := by unfold Dat.share; split <;> rfl

/-! ## The run -/

/-- What is known of a device's counters and arguments at the end. -/
def atEnd (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

omit [FloatOps F] in
theorem whole_read (s' : Phys nD τ sig (Elt F)) (ℓ : Loc nD τ sig) (f : Buf (Elt F) ℓ) :
    iprop(SI s' ∗ ℓ ↦{fullShare} f) ⊢ (⌜s'.mem.mem ℓ = f⌝ : sProp 𝕄) :=
  SI_pointsTo_agree.trans (Laws.pure_mono fun h => funext fun i => h i (Finset.mem_univ _))

theorem read_end (c : Dev nD) (s' : Phys nD τ sig (Elt F)) : iprop(left m c ∗ emp ∗ SI s') ⊢ |={Set.univ}=> iprop(⌜atEnd m c s'.mem⌝ ∗ SI s') := by
  unfold left args xPts
  iintro ⟨⟨Hu, Hx, Hw⟩, -, HSI⟩
  ihave %hx := (whole_read s' ((c : Thread nD τ).loc main_arg0) (xAt m c)) $$ [Hx HSI]
  · isplitl [HSI] <;> iassumption
  ihave %hw := (whole_read s' ((c : Thread nD τ).loc main_arg1) (wAt m c)) $$ [Hw HSI]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, hx, hw⟩
  iexact HSI

/-- A device's result once the kernel's block is written back. -/
theorem result_eq (c : Dev nD) : (dats (F := F) m ρ 0 c).arrAt (0 : Fin 1) cfg0.N = outAt m c := by
  refine (dats (F := F) m ρ 0 c).arrAt_eq_of_covers (0 : Fin 1) (outAt m c) (by decide +kernel) fun t _ y => ?_
  rw [fin_N0 t]
  refine congrArg (outAt m c) (funext fun a => Fin.ext ?_)
  exact (Pipeline.Window.rect_emb_val_of_index_zero (cfg0.win 0) t0_0 a (by revert a; decide +kernel) y).symm

set_option maxRecDepth 8000 in
/-- From any memory, with every counter at zero: every execution of the program on the eight devices ends, with each device's
    result the array `outAt`, its arguments unchanged and every counter at zero. -/
theorem run_main : θ_run defs (onTc (τ := τ) (main (F := F))) (s₀ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (own_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := enter m ρ) (hout := leave m ρ)
    (QY := atEnd m)
    (hY := read_end m)
    (hQ := fun _ h hs => ⟨fun c => ⟨((h c).1 (0 : Fin 1)).trans (result_eq m ρ c), (h c).2.2.2⟩, sem_eq_zero hs fun c => (h c).2.2.1⟩)

end Cert.KRun

end
-- ==== Proof.Values.lean ====
/-
# What the result holds

Over the extended reals an element of a device's result is `y / (1 + exp (-y))`, with `y` the element of the product of the
whole left array and the right array that it stands for. The reference without a clip computes the same thing; the reference
with a clip computes it wherever `y` is at most 60 in size.
-/
module

public import proofs.«01_k».proof.Proof.Contents
public import proofs.«01_k».proof.Proof.Gen.SiluIdeal.Run
public import proofs.«01_k».proof.Proof.Gen.SiluIdeal.Read
public import proofs.«01_k».proof.Proof.Gen.ReferenceIdeal.Run
public import proofs.«01_k».proof.Proof.Gen.ReferenceIdeal.Read
public import proofs.«01_k».proof.Proof.Gen.On_unclipped
public import Idealize.ShloMosaic.Lib.ValueIdx
public import Idealize.ShloMosaic.Lib.IdealHost
public import Idealize.ShloMosaic.Lib.Pipeline.Value
public import Idealize.ShloMosaic.PureOps.Ideal.Laws

@[expose] public section

noncomputable section

namespace Cert.KRun

open Cert.KernelIdeal Cert.KernelIdeal.Gen
open Idealize.ShloMosaic Idealize.ShloMosaic.TcCoe Idealize.ShloMosaic.ValueIdx Idealize.SL.Sem

/-! ## The activation -/

/-- The activation of an extended real. -/
def silu (y : EReal) : EReal := Ideal.div y (1 + Ideal.exp (-y))

theorem exp_nonneg (y : EReal) : 0 ≤ Ideal.exp y := by
  induction y with
  | bot => exact le_refl _
  | top => exact le_top
  | coe r => exact EReal.coe_nonneg.mpr (Real.exp_pos r).le

/-- A number times its logistic is its activation. -/
theorem mul_logistic (y : EReal) : y * Ideal.logistic y = silu y := by
  have h : (1 : EReal) + Ideal.exp (-y) ≠ 0 :=
    ne_of_gt (lt_of_lt_of_le zero_lt_one (le_add_of_nonneg_right (exp_nonneg _)))
  unfold silu Ideal.logistic Ideal.div
  rw [if_neg h, if_neg h, one_mul]

/-! ## The kernel's result -/

variable (m : (ℓ : Loc nD τ sig) → Buf (Elt Ideal) ℓ)

/-- Element `(r, l)` of the product of device `c`'s rows and the right array. -/
def entry (c : Dev nD) (r : Fin 512) (l : Fin 2048) : EReal := ∑ k : Fin 4096, xAt m c (ix2 r k) * wAt m c (ix2 k l)

/-- How the kernel's product pairs its operands. -/
abbrev dotD := dot_S512x4096_S4096x512_S512x512_1_0_0_1_n_n

theorem lhs_row (i : S512x512.Idx) (q : dotD.contr.Idx) : (dotD.lhsIdx i q 0).val = (i 0).val := by
  unfold DotDims.lhsIdx
  rw [dif_neg (show ¬(0 : Fin S512x4096.rank) ∈ dotD.lhsBatch by decide),
    dif_pos (show (0 : Fin S512x4096.rank) ∈ dotD.lhsNonContracting by decide)]
  rfl

theorem rhs_col (i : S512x512.Idx) (q : dotD.contr.Idx) : (dotD.rhsIdx i q 1).val = (i 1).val := by
  unfold DotDims.rhsIdx
  rw [dif_neg (show ¬(1 : Fin S4096x512.rank) ∈ dotD.rhsBatch by decide),
    dif_pos (show (1 : Fin S4096x512.rank) ∈ dotD.rhsNonContracting by decide)]
  rfl

/-- The product of 512 rows and 512 columns, summed over the 4096 places they share. -/
theorem dot_sum (a : FVec Ideal S512x4096 .bf16) (b : FVec Ideal S4096x512 .bf16) (i : S512x512.Idx) :
    matmul dotD none a b (constant S512x512 .f32 0x00000000#32) i = ∑ k : Fin 4096, a (ix2 (i 0) k) * b (ix2 k (i 1)) := by
  refine (Ideal.matmul_constant_zero_apply dotD none a b i).trans ?_
  rw [← Equiv.sum_comp (contrEquiv1 dotD 4096 rfl rfl).symm]
  refine Finset.sum_congr rfl fun k _ => ?_
  have hk := contrEquiv1_symm_val dotD 4096 rfl rfl k
  have el : dotD.lhsIdx i ((contrEquiv1 dotD 4096 rfl rfl).symm k) = ix2 (i 0) k := funext fun d => Fin.ext (by
    match d with
    | ⟨0, _⟩ => exact lhs_row _ _
    | ⟨1, _⟩ => exact (dotD.lhsIdx_val_of_single rfl i _).trans hk)
  have er : dotD.rhsIdx i ((contrEquiv1 dotD 4096 rfl rfl).symm k) = ix2 k (i 1) := funext fun d => Fin.ext (by
    match d with
    | ⟨0, _⟩ => exact (dotD.rhsIdx_val_of_single rfl i _).trans hk
    | ⟨1, _⟩ => exact rhs_col _ _)
  exact congrArg₂ (fun u v => a u * b v) el er

/-- An element of a chunk's activated product. -/
theorem prod_apply (c : Dev nD) (q : Fin 4) (i : S512x512.Idx) (l : Fin 2048) (h : l.val = 512 * q.val + (i 1).val) :
    prod m c q i = silu (entry m c (i 0) l) := by
  have hs : matmul dotD none (k0_pay1 (xAt m c))
      (truncf .bf16 (shapeCast S4096x512 (chunk m c q) shapeCasts_S1x4096x512_S4096x512 : FVec Ideal S4096x512 .f32) bitsLt_bf16_f32)
      (constant S512x512 .f32 0x00000000#32) i = entry m c (i 0) l := by
    refine (dot_sum _ _ i).trans (Finset.sum_congr rfl fun k _ => congrArg (xAt m c (ix2 (i 0) k) * ·) ?_)
    refine (shapeCast_dropUnit_apply ![4096, 512] (chunk m c q) shapeCasts_S1x4096x512_S4096x512 (ix2 k (i 1))).trans ?_
    exact congrArg (fun a => wAt m c (ix2 k a)) (Fin.ext h.symm)
  rw [← mul_logistic, ← hs]
  rfl

/-- 256 columns of a chunk's activated product, from column `o` on, read at an element. -/
theorem half_apply (v : FVec Ideal S512x512 .bf16) (o : Nat) (h : S512x512.Slices ![0, o] S512x256) (r : Fin 512) (l : Fin 256)
    (j : Fin 512) (hj : j.val = o + l.val) :
    shapeCast S1x512x256 (extractStridedSlice S512x256 ![0, o] v h) shapeCasts_S512x256_S1x512x256 (ix3 0 r l) = v (ix2 r j) := by
  refine (shapeCast_addUnit_apply ![512, 256] (extractStridedSlice S512x256 ![0, o] v h) shapeCasts_S512x256_S1x512x256 (ix3 0 r l)).trans ?_
  refine extractStridedSlice_apply ![0, o] v h _ (ix2 r j) fun a => ?_
  match a with
  | ⟨0, _⟩ => exact (Nat.zero_add r.val).symm
  | ⟨1, _⟩ => exact hj

theorem left_apply (a : FVec Ideal S512x4096 .bf16) (b : Vec Ideal S1x4096x512 .f32) (r : Fin 512) (l : Fin 256) :
    k0_pay3 a b (ix3 0 r l) = k0_pay2 a b (ix2 r ⟨l.val, by omega⟩) :=
  half_apply (k0_pay2 a b) 0 slices_S512x512_o0_0_S512x256 r l _ (Nat.zero_add _).symm

theorem right_apply (v : FVec Ideal S512x512 .bf16) (r : Fin 512) (l : Fin 256) :
    k0_pay4 v (ix3 0 r l) = v (ix2 r ⟨256 + l.val, by omega⟩) :=
  half_apply v 256 slices_S512x512_o0_256_S512x256 r l _ rfl

/-- A block without its first axis. -/
theorem flat_apply (v : Vec Ideal S1x512x256 .bf16) (r : Fin 512) (l : Fin 256) : k0_pay17 v (ix2 r l) = v (ix3 0 r l) := by
  refine (shapeCast_dropUnit_apply ![512, 256] v shapeCasts_S1x512x256_S512x256 (ix2 r l)).trans (congrArg v ?_)
  funext a
  match a with
  | ⟨0, _⟩ => rfl
  | ⟨1, _⟩ => rfl
  | ⟨2, _⟩ => rfl

/-- An element of the block a device makes for device `t`. -/
theorem block_apply (c t : Dev nD) (r : Fin 512) (l : Fin 256) (j : Fin 2048) (h : j.val = 256 * t.val + l.val) :
    k0_pay17 (blockVal m c t) (ix2 r l) = silu (entry m c r j) := by
  have hl := l.isLt
  have hq : (chunkOf t).val = t.val / 2 := rfl
  rw [flat_apply]
  unfold blockVal
  split_ifs with ht
  · refine (left_apply _ _ r l).trans (prod_apply m c (chunkOf t) (ix2 r ⟨l.val, by omega⟩) j ?_)
    show j.val = 512 * (chunkOf t).val + l.val
    omega
  · refine (right_apply _ r l).trans (prod_apply m c (chunkOf t) (ix2 r ⟨256 + l.val, by omega⟩) j ?_)
    show j.val = 512 * (chunkOf t).val + (256 + l.val)
    omega

/-! ## The references' results -/

variable (X : Cert.SiluIdeal.S4096x4096.Idx → EReal) (W : S4096x2048.Idx → EReal)

/-- An element of the product of the whole arrays. -/
def whole (i : S4096x2048.Idx) : EReal := ∑ k : Fin 4096, X (ix2 (i 0) k) * W (ix2 k (i 1))

theorem silu_product (i : S4096x2048.Idx) : Cert.SiluIdeal.Read.val_main_v0 (F := Ideal) X W i = whole X W i := by
  rw [Cert.SiluIdeal.Read.val_main_v0_apply]
  refine Finset.sum_congr rfl fun k _ => ?_
  congr 2 <;> (funext a; fin_cases a <;> rfl)

/-- The reference without a clip, at an element. -/
theorem silu_apply (i : S4096x2048.Idx) : Cert.SiluIdeal.Read.val_main_v6 (F := Ideal) X W i = silu (whole X W i) := by
  have h1 : Cert.SiluIdeal.Read.val_main_v3 (F := Ideal) i = 1 := by
    rw [Cert.SiluIdeal.Read.val_main_v3_apply, Cert.SiluIdeal.Read.val_main_cst_apply]; exact Ideal.ofBits_one_f32
  show Ideal.div (Cert.SiluIdeal.Read.val_main_v0 (F := Ideal) X W i)
    (Cert.SiluIdeal.Read.val_main_v3 (F := Ideal) i + Ideal.exp (-Cert.SiluIdeal.Read.val_main_v0 (F := Ideal) X W i)) = _
  rw [h1, silu_product]
  rfl

/-- The two bounds of the clip are opposite. -/
theorem clip_low : Ideal.ofBits .f32 0xC2700000#32 = -Ideal.ofBits .f32 0x42700000#32 := by
  simp [Ideal.ofBits, Ideal.ieee, -EReal.coe_mul]

/-- Between its bounds the clip changes nothing. -/
theorem clip_id {b y : EReal} (h : max y (-y) ≤ b) : min b (max (-b) y) = y := by
  have h1 : y ≤ b := (le_max_left _ _).trans h
  have h2 : -b ≤ y := EReal.neg_le_of_neg_le ((le_max_right _ _).trans h)
  rw [max_eq_right h2, min_eq_right h1]

/-- The mask is set where the product is at most 60 in size. -/
theorem mask_apply (i : S4096x2048.Idx) (h : Cert.On_unclipped.fn (F := Ideal) X W i = 1#1) :
    max (whole X W i) (-whole X W i) ≤ Ideal.ofBits .f32 0x42700000#32 := by
  have e : Cert.On_unclipped.fn (F := Ideal) X W i
      = Ideal.cmp .ole (max (Cert.SiluIdeal.Read.val_main_v0 (F := Ideal) X W i) (-Cert.SiluIdeal.Read.val_main_v0 (F := Ideal) X W i))
        (Ideal.ofBits .f32 0x42700000#32) := rfl
  rw [e, silu_product] at h
  by_contra hn
  rw [Ideal.cmp, decide_eq_false hn] at h
  exact absurd h (by decide)

/-- The reference with a clip, at an element where the mask is set. -/
theorem reference_apply (i : S4096x2048.Idx) (h : Cert.On_unclipped.fn (F := Ideal) X W i = 1#1) :
    Cert.ReferenceIdeal.Read.val_main_v7 (F := Ideal) X W i = Cert.SiluIdeal.Read.val_main_v6 (F := Ideal) X W i := by
  have hp : Cert.ReferenceIdeal.Read.val_main_v0 (F := Ideal) X W i = whole X W i := silu_product X W i
  have h1 : Cert.ReferenceIdeal.Read.val_main_v4 (F := Ideal) i = 1 := by
    rw [Cert.ReferenceIdeal.Read.val_main_v4_apply, Cert.ReferenceIdeal.Read.val_main_cst_1_apply]; exact Ideal.ofBits_one_f32
  have hc : Cert.ReferenceIdeal.Read.val_main_v1 (F := Ideal) X W i = whole X W i := by
    rw [Cert.ReferenceIdeal.Read.val_main_v1_apply, Cert.ReferenceIdeal.Read.val_main_call0_v2_apply,
      Cert.ReferenceIdeal.Read.val_main_call0_v4_apply, Cert.ReferenceIdeal.Read.val_main_call0_v1_apply, hp]
    show min (Ideal.ofBits .f32 0x42700000#32) (max (Ideal.ofBits .f32 0xC2700000#32) (whole X W i)) = _
    rw [clip_low]
    exact clip_id (mask_apply X W i h)
  show Ideal.div (Cert.ReferenceIdeal.Read.val_main_v0 (F := Ideal) X W i)
    (Cert.ReferenceIdeal.Read.val_main_v4 (F := Ideal) i + Ideal.exp (-Cert.ReferenceIdeal.Read.val_main_v1 (F := Ideal) X W i)) = _
  rw [hp, h1, hc, silu_apply]
  rfl

/-! ## The two together -/

/-- When the devices hold the rows of `X` and copies of `W`, device `t`'s result is its columns of the reference's. -/
theorem out_eq (hX : ∀ c : Dev nD, m ((c : Thread nD τ).loc main_arg0) = Layout.block ⟨2, ![512, 4096]⟩ ⟨2, ![4096, 4096]⟩ 0 8 c X)
    (hW : ∀ c : Dev nD, m ((c : Thread nD τ).loc main_arg1) = W) (t : Dev nD) :
    outAt m t = Layout.block ⟨2, ![4096, 256]⟩ ⟨2, ![4096, 2048]⟩ 1 8 t (Cert.SiluIdeal.Read.val_main_v6 (F := Ideal) X W) := by
  funext i
  have hT : Layout.Tiles ⟨2, ![4096, 256]⟩ ⟨2, ![4096, 2048]⟩ 1 8 := by decide
  have hR : Layout.Tiles ⟨2, ![512, 4096]⟩ ⟨2, ![4096, 4096]⟩ 0 8 := by decide
  have e1 : (hT.idx t i 1).val = t.val * 256 + (i 1).val := rfl
  have e0 : (hT.idx t i 0).val = (i 0).val := rfl
  refine (block_apply m _ t _ (i 1) (hT.idx t i 1) (by rw [e1, Nat.mul_comm])).trans ?_
  refine Eq.trans (congrArg silu ?_) (silu_apply X W (hT.idx t i)).symm
  refine Finset.sum_congr rfl fun k _ => ?_
  refine congr (congrArg _ ?_) (congrFun (hW _) _)
  refine (congrFun (hX _) _).trans (congrArg X (funext fun a => Fin.ext ?_))
  match a with
  | ⟨0, _⟩ => exact (Nat.div_add_mod' (i 0).val 512)
  | ⟨1, _⟩ => rfl

end Cert.KRun

end
-- ==== Proof.lean ====
/-
# The claims

The kernel multiplies the rows each of eight devices holds by the right array, activates the product, and gives each device
its columns of the whole result. Here its run, proved once for any kind of number, is read as each claim asks: the program as
printed and the program over the extended reals end with their arguments as they were and every semaphore at zero, and over the
extended reals the devices' results are the parts of `y / (1 + exp (-y))`, with `y` the product of the whole arrays. That is the
reference without a clip at every element, and the reference with a clip wherever `y` is at most 60 in size.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.SiluIdeal
public import proofs.«01_k».proof.Proof.Gen.On_unclipped
public import proofs.«01_k».proof.Proof.Gen.SiluIdeal.Run
public import proofs.«01_k».proof.Proof.Gen.SiluIdeal.Read
public import proofs.«01_k».proof.Proof.Gen.ReferenceIdeal.Run
public import proofs.«01_k».proof.Proof.Gen.ReferenceIdeal.Read
public import proofs.«01_k».proof.Proof.Launch
public import proofs.«01_k».proof.Proof.Values
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The facts each program states. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.SiluIdeal.Facts := Cert.SiluIdeal.Gen.facts
local instance : Cert.On_unclipped.Facts := Cert.On_unclipped.Gen.facts

/-- Over the extended reals the program ends, its arguments as they were and its semaphores at zero. -/
theorem frame_ideal : Cert.quiescent_KernelIdeal := fun m ρ _ =>
  (θ_run Cert.KernelIdeal.defs _ _).mono (fun _ h => ⟨fun c => (h.1 c).2, h.2⟩) (Cert.KRun.run_main (F := Ideal) m ρ)

/-- The body of the program as printed is the body of the program over the extended reals, read at the same numbers: -/
theorem same_bodies {F : FTy → Type} [FloatOps F] : Cert.Kernel.defs₀ (F := F) = Cert.KernelIdeal.defs₀ (F := F) := by
  refine congrArg Defs.onTc ?_
  funext k a
  match k with
  | ⟨0, _⟩ => rfl

/-- and so is the whole table of bodies. -/
theorem same_defs {F : FTy → Type} [FloatOps F] : Cert.Kernel.defs (F := F) = Cert.KernelIdeal.defs (F := F) := by
  unfold Cert.Kernel.defs Cert.KernelIdeal.defs
  rw [same_bodies]
  rfl

/-- So the program on machine numbers also ends, its arguments as they were and its semaphores at zero. -/
theorem frame_kernel : Cert.quiescent_Kernel := fun m ρ _ => by
  rw [same_defs]
  exact (θ_run Cert.KernelIdeal.defs _ _).mono (fun _ h => ⟨fun c => (h.1 c).2, h.2⟩) (Cert.KRun.run_main (F := Bits) m ρ)

/-- The reference with a clip ends, its arguments as they were; it has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The reference without a clip, likewise. -/
theorem frame_silu : Cert.quiescent_SiluIdeal := fun m ρ _ =>
  (θ_run Cert.SiluIdeal.defs _ _).mono (fun r h => ⟨fun c => (h c).2, sem_eq_zero_of_no_sems rfl r.2⟩)
    (Cert.SiluIdeal.Value.run (F := Ideal) m ρ)

/-- The devices' results are the columns of the reference without a clip, at every element. -/
theorem equals_silu : Cert.algebraic_KernelIdeal_SiluIdeal := fun m g m' g' _ h =>
  ⟨Cert.SiluIdeal.Read.val_main_v6 (F := Ideal) (m' ((0 : Dev Cert.SiluIdeal.nD).tc.loc Cert.SiluIdeal.main_arg0))
      (m' ((0 : Dev Cert.SiluIdeal.nD).tc.loc Cert.SiluIdeal.main_arg1)),
    (θ_run Cert.KernelIdeal.defs _ _).mono
      (fun _ hr c => ⟨(hr.1 c).1.trans (Cert.KRun.out_eq m _ _ (fun c => (h c).1) (fun c => (h c).2) c), (hr.1 c).2⟩)
      (Cert.KRun.run_main (F := Ideal) m g),
    (θ_run Cert.SiluIdeal.defs _ _).mono
      (fun _ hr => ⟨(hr 0).1.trans (Cert.SiluIdeal.Read.val_main_v6_eq _ _), (hr 0).2⟩)
      (Cert.SiluIdeal.Value.run (F := Ideal) m' g')⟩

/-- And those of the reference with a clip, at every element whose product is at most 60 in size. -/
theorem equals_reference : Cert.algebraic_KernelIdeal_ReferenceIdeal_on_unclipped := fun m g m' g' _ h =>
  ⟨Cert.SiluIdeal.Read.val_main_v6 (F := Ideal) (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono
      (fun _ hr c => ⟨fun i _ => congrFun ((hr.1 c).1.trans (Cert.KRun.out_eq m _ _ (fun c => (h c).1) (fun c => (h c).2) c)) i, (hr.1 c).2⟩)
      (Cert.KRun.run_main (F := Ideal) m g),
    (θ_run Cert.ReferenceIdeal.defs _ _).mono
      (fun _ hr => ⟨fun i hi => (congrFun ((hr 0).1.trans (Cert.ReferenceIdeal.Read.val_main_v7_eq _ _)) i).trans
        (Cert.KRun.reference_apply _ _ i hi), (hr 0).2⟩)
      (Cert.ReferenceIdeal.Value.run (F := Ideal) m' g')⟩

/-- Every claim. -/
theorem claim : Cert.Claim := ⟨Cert.Kernel.Gen.facts, Cert.KernelIdeal.Gen.facts, Cert.ReferenceIdeal.Gen.facts, Cert.SiluIdeal.Gen.facts,
  Cert.On_unclipped.Gen.facts, frame_kernel, frame_ideal, frame_reference, frame_silu, trivial, equals_silu, equals_reference⟩

end Cert.Proof

end
